-- ==== Defs.lean ====
def Pre_Kernel [hPre_rolled_Kernel : Cert.Pre_rolled_Kernel.Facts] (m : (ℓ : Loc Cert.Kernel.nD Cert.Kernel.τ Cert.Kernel.sig) → Buf (Elt Bits) ℓ) : Prop :=
  ∀ c : Dev Cert.Kernel.nD,
    (Cert.Pre_rolled_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_Kernel : Cert.Pre_rolled_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rolled_ReferenceIdeal [hPre_rolled_ReferenceIdeal : Cert.Pre_rolled_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rolled_Kernel : Cert.Pre_rolled_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_Kernel : Cert.Pre_rolled_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_ReferenceIdeal [hReferenceIdeal : Cert.ReferenceIdeal.Facts] [hPre_rolled_ReferenceIdeal : Cert.Pre_rolled_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rolled_Kernel : Cert.Pre_rolled_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rolled_Kernel : Cert.Pre_rolled_Kernel.Facts) (hPre_rolled_ReferenceIdeal : Cert.Pre_rolled_ReferenceIdeal.Facts),
    quiescent_Kernel (hKernel := hKernel) (hPre_rolled_Kernel := hPre_rolled_Kernel)
    ∧ quiescent_KernelIdeal (hKernelIdeal := hKernelIdeal) (hPre_rolled_Kernel := hPre_rolled_Kernel)
    ∧ quiescent_ReferenceIdeal (hReferenceIdeal := hReferenceIdeal)
    ∧ quiescent_ReferenceIdeal_pre_rolled_ReferenceIdeal (hReferenceIdeal := hReferenceIdeal) (hPre_rolled_ReferenceIdeal := hPre_rolled_ReferenceIdeal)
    ∧ preserves_Kernel_KernelIdeal
    ∧ algebraic_KernelIdeal_ReferenceIdeal (hKernelIdeal := hKernelIdeal) (hReferenceIdeal := hReferenceIdeal) (hPre_rolled_Kernel := hPre_rolled_Kernel)
-- ==== Pre_rolled_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16 32) (arg1 : IVec S_ 32) : IVec S16 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S16 32 := broadcastInDim S16 ![] bcast_S_S16 v2
  let v4 : IVec S16 32 := Host.remsi arg0 v3
  let c_1 : IVec S_ 32 := constantI S_ 32 0#32
  let v5 : IVec S16 32 := broadcastInDim S16 ![] bcast_S_S16 c_1
  let v6 : IVec S16 1 := cmpi .ne v4 v5
  let c_2 : IVec S_ 32 := constantI S_ 32 0#32
  let v7 : IVec S16 32 := broadcastInDim S16 ![] bcast_S_S16 c_2
  let v8 : IVec S16 1 := cmpi .slt v4 v7
  let c_3 : IVec S_ 32 := constantI S_ 32 0#32
  let v9 : IVec S_ 1 := cmpi .slt v2 c_3
  let v10 : IVec S16 1 := broadcastInDim S16 ![] bcast_S_S16 v9
  let v11 : IVec S16 1 := cmpi .ne v8 v10
  let v12 : IVec S16 1 := andi v11 v6
  let v13 : IVec S16 32 := broadcastInDim S16 ![] bcast_S_S16 v2
  let v14 : IVec S16 32 := addi v4 v13
  let v15 : IVec S16 32 := select v12 v14 v4
  v15

def fn {F : FTy → Type} [FloatOps F] (main_arg0 : FVec F S1x256x256 .f32) (main_arg1 : IVec S16 32) : IVec S16 1 :=
  let main_v0 : IVec S16 32 := iotaInDim S16 32 0
  let main_c : IVec S_ 32 := constantI S_ 32 2#32
  let main_v1 : IVec S16 32 := broadcastInDim S16 ![] bcast_S_S16 main_c
  let main_v2 : IVec S16 32 := addi main_v0 main_v1
  let main_c_0 : IVec S_ 32 := constantI S_ 32 16#32
  let main_v3 : IVec S16 32 := fn_remainder (F := F) main_v2 main_c_0
  let main_v4 : IVec S16 1 := cmpi .eq main_arg1 main_v3
  main_v4
-- ==== Pre_rolled_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16 32) (arg1 : IVec S_ 32) : IVec S16 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S16 32 := broadcastInDim S16 ![] bcast_S_S16 v2
  let v4 : IVec S16 32 := Host.remsi arg0 v3
  let c_1 : IVec S_ 32 := constantI S_ 32 0#32
  let v5 : IVec S16 32 := broadcastInDim S16 ![] bcast_S_S16 c_1
  let v6 : IVec S16 1 := cmpi .ne v4 v5
  let c_2 : IVec S_ 32 := constantI S_ 32 0#32
  let v7 : IVec S16 32 := broadcastInDim S16 ![] bcast_S_S16 c_2
  let v8 : IVec S16 1 := cmpi .slt v4 v7
  let c_3 : IVec S_ 32 := constantI S_ 32 0#32
  let v9 : IVec S_ 1 := cmpi .slt v2 c_3
  let v10 : IVec S16 1 := broadcastInDim S16 ![] bcast_S_S16 v9
  let v11 : IVec S16 1 := cmpi .ne v8 v10
  let v12 : IVec S16 1 := andi v11 v6
  let v13 : IVec S16 32 := broadcastInDim S16 ![] bcast_S_S16 v2
  let v14 : IVec S16 32 := addi v4 v13
  let v15 : IVec S16 32 := select v12 v14 v4
  v15

def fn {F : FTy → Type} [FloatOps F] (main_arg0 : FVec F S16x256x256 .f32) (main_arg1 : IVec S16 32) : IVec S16 1 :=
  let main_v0 : IVec S16 32 := iotaInDim S16 32 0
  let main_c : IVec S_ 32 := constantI S_ 32 2#32
  let main_v1 : IVec S16 32 := broadcastInDim S16 ![] bcast_S_S16 main_c
  let main_v2 : IVec S16 32 := addi main_v0 main_v1
  let main_c_0 : IVec S_ 32 := constantI S_ 32 16#32
  let main_v3 : IVec S16 32 := fn_remainder (F := F) main_v2 main_c_0
  let main_v4 : IVec S16 1 := cmpi .eq main_arg1 main_v3
  main_v4
-- ==== Kernel.lean ====
abbrev S1x256x256 : Shape := ⟨3, ![1, 256, 256]⟩
abbrev S16 : Shape := ⟨1, ![16]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x256x256, .f32⟩
  | .hbm, ⟨1, _⟩ => ⟨S16, .i32⟩
  | .hbm, ⟨2, _⟩ => ⟨S1x256x256, .f32⟩
  | .local _ .smem, ⟨0, _⟩ => ⟨S16, .i32⟩
  | _, _ => ⟨S1x256x256, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : Index := Scalar.indexCast v2
  ![v3.toNat]
def k0_dev1 (d0 : Dev nD) (v5 : BitVec 32) (v8 : BitVec 32) (v11 : BitVec 32) (v14 : BitVec 32) (v17 : BitVec 32) (v20 : BitVec 32) (v23 : BitVec 32) (v26 : BitVec 32) (v29 : BitVec 32) (v32 : BitVec 32) (v35 : BitVec 32) (v38 : BitVec 32) (v41 : BitVec 32) (v44 : BitVec 32) (v47 : BitVec 32) (v50 : BitVec 32) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v51 : BitVec 1 := Scalar.cmpi .eq v50 v2
  let c15_i32 : BitVec 32 := 15#32
  let v48 : BitVec 1 := Scalar.cmpi .eq v47 v2
  let c14_i32 : BitVec 32 := 14#32
  let v45 : BitVec 1 := Scalar.cmpi .eq v44 v2
  let c13_i32 : BitVec 32 := 13#32
  let v42 : BitVec 1 := Scalar.cmpi .eq v41 v2
  let c12_i32 : BitVec 32 := 12#32
  let v39 : BitVec 1 := Scalar.cmpi .eq v38 v2
  let c11_i32 : BitVec 32 := 11#32
  let v36 : BitVec 1 := Scalar.cmpi .eq v35 v2
  let c10_i32 : BitVec 32 := 10#32
  let v33 : BitVec 1 := Scalar.cmpi .eq v32 v2
  let c9_i32 : BitVec 32 := 9#32
  let v30 : BitVec 1 := Scalar.cmpi .eq v29 v2
  let c8_i32 : BitVec 32 := 8#32
  let v27 : BitVec 1 := Scalar.cmpi .eq v26 v2
  let c7_i32 : BitVec 32 := 7#32
  let v24 : BitVec 1 := Scalar.cmpi .eq v23 v2
  let c6_i32 : BitVec 32 := 6#32
  let v21 : BitVec 1 := Scalar.cmpi .eq v20 v2
  let c5_i32 : BitVec 32 := 5#32
  let v18 : BitVec 1 := Scalar.cmpi .eq v17 v2
  let c4_i32 : BitVec 32 := 4#32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let v19 : BitVec 32 := Scalar.select v18 c4_i32 v16
  let v22 : BitVec 32 := Scalar.select v21 c5_i32 v19
  let v25 : BitVec 32 := Scalar.select v24 c6_i32 v22
  let v28 : BitVec 32 := Scalar.select v27 c7_i32 v25
  let v31 : BitVec 32 := Scalar.select v30 c8_i32 v28
  let v34 : BitVec 32 := Scalar.select v33 c9_i32 v31
  let v37 : BitVec 32 := Scalar.select v36 c10_i32 v34
  let v40 : BitVec 32 := Scalar.select v39 c11_i32 v37
  let v43 : BitVec 32 := Scalar.select v42 c12_i32 v40
  let v46 : BitVec 32 := Scalar.select v45 c13_i32 v43
  let v49 : BitVec 32 := Scalar.select v48 c14_i32 v46
  let v52 : BitVec 32 := Scalar.select v51 c15_i32 v49
  v52.toNat

def k0_chk1 (d0 : Dev nD) (v5 : BitVec 32) (v8 : BitVec 32) (v11 : BitVec 32) (v14 : BitVec 32) (v17 : BitVec 32) (v20 : BitVec 32) (v23 : BitVec 32) (v26 : BitVec 32) (v29 : BitVec 32) (v32 : BitVec 32) (v35 : BitVec 32) (v38 : BitVec 32) (v41 : BitVec 32) (v44 : BitVec 32) (v47 : BitVec 32) (v50 : BitVec 32) : Prop :=
  ((k0_dev1 d0 v5 v8 v11 v14 v17 v20 v23 v26 v29 v32 v35 v38 v41 v44 v47 v50) < nD)
theorem k0_dev1_lt : ∀ (d0 : Dev nD) (v5 : BitVec 32) (v8 : BitVec 32) (v11 : BitVec 32) (v14 : BitVec 32) (v17 : BitVec 32) (v20 : BitVec 32) (v23 : BitVec 32) (v26 : BitVec 32) (v29 : BitVec 32) (v32 : BitVec 32) (v35 : BitVec 32) (v38 : BitVec 32) (v41 : BitVec 32) (v44 : BitVec 32) (v47 : BitVec 32) (v50 : BitVec 32) (k0_hw1 : k0_chk1 d0 v5 v8 v11 v14 v17 v20 v23 v26 v29 v32 v35 v38 v41 v44 v47 v50), (k0_dev1 d0 v5 v8 v11 v14 v17 v20 v23 v26 v29 v32 v35 v38 v41 v44 v47 v50) < nD := fun d0 v5 v8 v11 v14 v17 v20 v23 v26 v29 v32 v35 v38 v41 v44 v47 v50 k0_hw1 => k0_hw1

def k0_dev2 (v4 : BitVec 32) : Nat :=
  v4.toNat

def k0_chk2 (v4 : BitVec 32) : Prop :=
  ((k0_dev2 v4) < nD)
theorem k0_dev2_lt : ∀ (v4 : BitVec 32) (k0_hw2 : k0_chk2 v4), (k0_dev2 v4) < nD := fun v4 k0_hw2 => k0_hw2

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16x256x256 : Shape := ⟨3, ![16, 256, 256]⟩
abbrev S16 : Shape := ⟨1, ![16]⟩
abbrev S_ : Shape := ⟨0, ![]⟩
abbrev S16x1 : Shape := ⟨2, ![16, 1]⟩

abbrev nBuf : Space → Nat
  | .hbm => 14
  | .vmem => 0
  | .smem => 0
  | _ => 0

abbrev bufTy : (tb : Table) → Fin (tcTables nBuf tb) → BufTy
  | .hbm, ⟨0, _⟩ => ⟨S16x256x256, .f32⟩
  | .hbm, ⟨1, _⟩ => ⟨S16, .i32⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S16x256x256, .f32⟩
  | _, _ => ⟨S16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Table.lean ====
/-
The table of destinations: what "every device holds the table of the permutation σ" means, the words the kernel
reads from the staged table, and the two devices it computes from them: the destination σ c and the source σ⁻¹ c.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Permute

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ)

/-- The position of device `j`'s word in the table. -/
def slot (j : Dev nD) : S16.Idx := fun a => ⟨j.val, by fin_cases a; exact j.isLt⟩

/-- Device `c`'s table in the launch memory. -/
abbrev tableOf (c : Dev nD) : IVec S16 32 := m ((c : Thread nD τ).loc main_arg1)

/-- Device `c`'s block in the launch memory. -/
abbrev blockOf (c : Dev nD) : FVec F S1x256x256 .f32 := m ((c : Thread nD τ).loc main_arg0)

/-- Every device's table is the permutation `σ`: word `j` is the number of device `σ j`. -/
def Agrees (σ : Dev nD ≃ Dev nD) : Prop := ∀ c j : Dev nD, tableOf m c (slot j) = BitVec.ofNat 32 (σ j).val

/-- The table as the pipeline stages it into scalar memory on device `c`. -/
def staged (c : Dev nD) : (cc0_stg0_0 : Ref sig .tc).ty.Contents (Elt F) :=
  (win0_0.blk (0 : Fin 1)).view.read (Elt F) (m ((c : Thread nD τ).loc main_arg1))

/-- The word a scalar load at offset `o` of the staged table gives. -/
abbrev wordAt (c : Dev nD) (o : Fin 1 → Nat) (h : ∀ a, o a + S1.size a ≤ S16.size a) : BitVec 32 :=
  ((Memref.whole cc0_stg0_0).access (Rect.unit (s := S16) o S1.size h) : View sig .tc _ _ _).read (Elt F) (staged m c)
    (Shape.Idx.first (s := S1) (numel1_S1.symm ▸ Nat.one_pos))

omit [FloatOps F] in
/-- A load at an offset that is the number of device `j` gives the table's word of `j`. -/
theorem wordAt_eq (c j : Dev nD) (o : Fin 1 → Nat) (h : ∀ a, o a + S1.size a ≤ S16.size a) (ho : o = fun _ => j.val) :
    wordAt m c o h = tableOf m c (slot j) := by
  subst ho
  show m ((c : Thread nD τ).loc main_arg1) _ = _
  refine congrArg _ (funext fun a => Fin.ext ?_)
  fin_cases a; fin_cases j <;> rfl

/-- The offset of the load by the device's own number. -/
theorem ownOffset (c : Dev nD) : k0_off1 c = fun _ => c.val := by
  revert c; decide +kernel

/-- The kernel's own position as a word, as the kernel computes it from the device number. -/
theorem ownWord (c : Dev nD) : Scalar.remsi (Scalar.divsi (Dev.word c) 1#32) 16#32 = BitVec.ofNat 32 c.val := by
  revert c; decide +kernel

/-- Comparing the words of two device numbers compares the devices. -/
theorem cmpi_devices (a b : Dev nD) :
    Scalar.cmpi .eq (BitVec.ofNat 32 a.val) (BitVec.ofNat 32 b.val) = BitVec.ofBool (decide (a = b)) := by
  revert a b; decide +kernel

/-- The chain of sixteen selects, when exactly the comparison at `s` holds, gives `s`. -/
theorem chain_gives (s : Dev nD) (b : Dev nD → BitVec 1) (hb : ∀ j, b j = BitVec.ofBool (decide (j = s))) :
    (Scalar.select (b 15) 15#32 (Scalar.select (b 14) 14#32 (Scalar.select (b 13) 13#32 (Scalar.select (b 12) 12#32
      (Scalar.select (b 11) 11#32 (Scalar.select (b 10) 10#32 (Scalar.select (b 9) 9#32 (Scalar.select (b 8) 8#32
      (Scalar.select (b 7) 7#32 (Scalar.select (b 6) 6#32 (Scalar.select (b 5) 5#32 (Scalar.select (b 4) 4#32
      (Scalar.select (b 3) 3#32 (Scalar.select (b 2) 2#32 (Scalar.select (b 1) 1#32
      (Scalar.select (b 0) 0#32 0#32)))))))))))))))).toNat = s.val := by
  simp only [hb]; clear hb b
  revert s; decide +kernel

/-- The device the kernel signals, computed from the words of a permutation's table, is the source `σ⁻¹ c`. -/
theorem source_of_words (σ : Dev nD ≃ Dev nD) (c : Dev nD) (w : Dev nD → BitVec 32) (hw : ∀ j, w j = BitVec.ofNat 32 (σ j).val) :
    k0_dev1 c (w 0) (w 1) (w 2) (w 3) (w 4) (w 5) (w 6) (w 7) (w 8) (w 9) (w 10) (w 11) (w 12) (w 13) (w 14) (w 15) = (σ.symm c).val := by
  refine chain_gives (σ.symm c) (fun j => Scalar.cmpi .eq (w j) (Scalar.remsi (Scalar.divsi (Dev.word c) 1#32) 16#32)) fun j => ?_
  rw [hw, ownWord, cmpi_devices]
  exact congrArg BitVec.ofBool (decide_eq_decide.mpr (Equiv.eq_symm_apply σ).symm)

/-- The device the kernel copies to, read from the word of a permutation's table, is the destination. -/
theorem dest_of_word (d : Dev nD) (w : BitVec 32) (hw : w = BitVec.ofNat 32 d.val) : k0_dev2 w = d.val := by
  subst hw
  show (BitVec.ofNat 32 d.val).toNat = d.val
  revert d; decide +kernel

end Cert.Permute

end
-- ==== Proof.Pre.lean ====
/-
The precondition: what `rolled` says of one device's table, and that it makes every device's table that of the
rotation by two places.
-/
module

public import proofs.«01_k».proof.Pre_rolled_Kernel
public import proofs.«01_k».proof.Proof.Gen.Pre_rolled_Kernel
public import proofs.«01_k».proof.Proof.Table

@[expose] public section

noncomputable section

namespace Cert.Permute

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ)

/-- The rotation by two places: device `j` sends to device `j + 2`, counted modulo sixteen. -/
def rotation : Dev nD ≃ Dev nD where
  toFun j := (j + 2 : Fin 16)
  invFun j := (j + 14 : Fin 16)
  left_inv := by decide +kernel
  right_inv := by decide +kernel

/-- The word `rolled` computes for place `j` is the number of the device two places on. -/
theorem rolled_word (j : Dev nD) :
    Cert.Pre_rolled_Kernel.fn_remainder (F := F) (addi (iotaInDim Cert.Pre_rolled_Kernel.S16 32 0)
      (broadcastInDim Cert.Pre_rolled_Kernel.S16 ![] Cert.Pre_rolled_Kernel.Facts.bcast_S_S16
        (constantI Cert.Pre_rolled_Kernel.S_ 32 2#32))) (constantI Cert.Pre_rolled_Kernel.S_ 32 16#32) (slot j)
      = BitVec.ofNat 32 (rotation j).val := by
  have closed : ∀ j : Dev nD, ∀ w : BitVec 32, w = IntOp.remsi .host (BitVec.ofNat 32 j.val + 2#32) 16#32 →
      Scalar.select (Scalar.andi (Scalar.cmpi .ne (Scalar.cmpi .slt w 0#32) (Scalar.cmpi .slt 16#32 0#32))
        (Scalar.cmpi .ne w 0#32)) (Scalar.addi w 16#32) w = BitVec.ofNat 32 (rotation j).val := by
    intro j w h; subst h; revert j; decide +kernel
  exact closed j _ rfl

/-- A table of which `rolled` is all ones is the rotation's. -/
theorem rolled_table (x : FVec F S1x256x256 .f32) (t : IVec S16 32)
    (h : Cert.Pre_rolled_Kernel.fn (F := F) x t = fun _ => 1#1) (j : Dev nD) : t (slot j) = BitVec.ofNat 32 (rotation j).val := by
  have hj : IntOp.cmpi .eq (t (slot j)) (Cert.Pre_rolled_Kernel.fn_remainder (F := F) (addi (iotaInDim Cert.Pre_rolled_Kernel.S16 32 0)
      (broadcastInDim Cert.Pre_rolled_Kernel.S16 ![] Cert.Pre_rolled_Kernel.Facts.bcast_S_S16
        (constantI Cert.Pre_rolled_Kernel.S_ 32 2#32))) (constantI Cert.Pre_rolled_Kernel.S_ 32 16#32) (slot j)) = 1#1 :=
    congrFun h (slot j)
  rw [rolled_word] at hj
  have hb : (t (slot j) == BitVec.ofNat 32 (rotation j).val) = true := by
    by_contra hne
    rw [Bool.not_eq_true] at hne
    have : BitVec.ofBool (t (slot j) == BitVec.ofNat 32 (rotation j).val) = 1#1 := hj
    rw [hne] at this
    exact absurd this (by decide)
  exact eq_of_beq hb

/-- When `rolled` is all ones of every device's arguments, every device's table is the rotation's. -/
theorem agrees_of_rolled
    (h : ∀ c : Dev nD, Cert.Pre_rolled_Kernel.fn (F := F) (m ((c : Thread nD τ).loc main_arg0)) (m ((c : Thread nD τ).loc main_arg1))
      = fun _ => 1#1) : Agrees m rotation :=
  fun c j => rolled_table _ _ (h c) j

end Cert.Permute

end
-- ==== Proof.Schedule.lean ====
/-
The protocol of one exchange under a permutation σ, as a schedule of three counters on every device c:
the gate (the barrier counter), paid one unit by the destination σ c, which lends c its result array;
the outgoing counter, paid by c's own copy, which gives back c's block; the incoming counter, paid by the
copy of the source σ⁻¹ c, which brings the result array filled with the source's block.
-/
module

public import proofs.«01_k».proof.Proof.Table

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: one component for the pipeline's own counters, one for the exchange's. -/
abbrev Ghost : Type := UR sig nD τ × UR sig nD τ

local notation "𝕄" => MT nD τ sig Unit (Elt F) ℕ Ghost ℕ

/-- The pipeline's component. -/
abbrev EP : Emb (UR sig nD τ) (MT nD τ sig Unit (Elt F) ℕ Ghost ℕ) := embL
/-- The exchange's component. -/
abbrev EX : Emb (UR sig nD τ) (MT nD τ sig Unit (Elt F) ℕ Ghost ℕ) := embR

variable (σ : Dev nD ≃ Dev nD)
variable (m : (ℓ : Loc nD τ sig) → Buf (Elt F) ℓ)

/-! ## The counters -/

/-- The barrier semaphore the handshake uses. -/
abbrev barS : Sem sig := (SemArray.scalar (sig.barrier 0 rfl) : Sems sig S_).sem

/-- The three semaphores of the exchange: 0 the gate, 1 the outgoing copy, 2 the incoming copy. -/
abbrev semOf : Fin 3 → SemLoc sig := fun | 0 => .reg barS | 1 => .dma cc0_scratch0.sem | 2 => .dma cc0_scratch1.sem

/-- The two of them that the kernel owns. -/
abbrev ownSem : Fin 2 → SemLoc sig := fun | 0 => .dma cc0_scratch0.sem | 1 => .dma cc0_scratch1.sem

/-- The counter number `k` of device `c`. -/
abbrev counter (c : Dev nD) (k : Fin 3) : GSem nD τ sig := ((c : Thread nD τ), semOf k)

/-- The three semaphores are different. -/
theorem semOf_injective : Function.Injective semOf := by decide

/-- Two counters are the same only if the device and the number are. -/
theorem counter_inj {c d : Dev nD} {k l : Fin 3} (h : counter c k = counter d l) : c = d ∧ k = l :=
  ⟨Fin.ext (congrArg (fun g : GSem nD τ sig => g.1.1.val) h), semOf_injective (congrArg Prod.snd h)⟩

/-- The credit of one whole block. -/
abbrev N : ℕ := (Memref.whole main_v1 : Memref sig .tc .hbm S1x256x256 .f32).view.dmaCredit
/-- A block's credit is not zero. -/
theorem N_pos : 0 < N := View.dmaCredit_pos _ (by decide)

/-- How much counter `k` is paid. -/
def units (k : Fin 3) : ℕ := if k = 0 then 1 else N
/-- Every counter is paid something. -/
theorem units_pos (k : Fin 3) : 0 < units k := by
  unfold units; split
  · exact Nat.one_pos
  · exact N_pos

/-! ## What a payment hands over -/

/-- What device `c`'s result array holds after the exchange: the source's block. -/
def arrived (c : Dev nD) : Buf (Elt F) ((c : Thread nD τ).loc main_v1) := blockOf m (σ.symm c)

/-- Device `c`'s block, held whole with its launch contents. -/
def holdsBlock (c : Dev nD) : sProp 𝕄 := iprop(((c : Thread nD τ).loc main_arg0) ↦{fullShare} m ((c : Thread nD τ).loc main_arg0))

/-- Device `c`'s result array, held whole with the contents `f`. -/
def holdsResult (c : Dev nD) (f : Buf (Elt F) ((c : Thread nD τ).loc main_v1)) : sProp 𝕄 :=
  iprop(((c : Thread nD τ).loc main_v1) ↦{fullShare} f)

/-- What a payment of counter `k` hands device `c`. -/
def hands (c : Dev nD) : Fin 3 → sProp 𝕄
  | 0 => iprop((∃ f, holdsResult (σ c) f) ∗ reached EX (counter (σ c) 2) 0)
  | 1 => holdsBlock m c
  | 2 => holdsResult c (arrived σ m c)

omit [FloatOps F] in
/-- A device's block can be handed over by a payment, -/
instance holdsBlock_storable (c : Dev nD) : BI.Storable (upEmb : UEmb _ 𝕄) (holdsBlock (F := F) m c) := by
  unfold holdsBlock; infer_instance
omit [FloatOps F] in
/-- and so can a device's result array, -/
instance holdsResult_storable (c : Dev nD) (f) : BI.Storable (upEmb : UEmb _ 𝕄) (holdsResult (F := F) c f) := by
  unfold holdsResult; infer_instance
omit [FloatOps F] in
/-- and so can whatever the payments hand over. -/
instance hands_storable (c : Dev nD) (k : Fin 3) : BI.Storable (upEmb : UEmb _ 𝕄) (hands (F := F) σ m c k) := by
  fin_cases k <;> simp only [hands] <;> infer_instance

/-! ## The schedule -/

/-- The number of a counter, from its semaphore. -/
def numberOf (s : SemLoc sig) : Option (Fin 3) :=
  if s = semOf 0 then some 0 else if s = semOf 1 then some 1 else if s = semOf 2 then some 2 else none

/-- The number of semaphore `k` is `k`. -/
theorem numberOf_semOf (k : Fin 3) : numberOf (semOf k) = some k := by revert k; decide

/-- One round: every counter of the exchange is paid once, `units k`, handing over `hands c k`. -/
def plan : Rounds.Schedule (GSem nD τ sig) Unit 𝕄 where
  duties g r := if r = 0 ∧ g.1.2 = .tc ∧ (numberOf g.2).isSome then {()} else ∅
  unitless _ := False
  amount g _ _ := (numberOf g.2).elim 1 units
  payload g _ _ := (numberOf g.2).elim iprop(emp) (hands σ m g.1.1)
  amount_pos g _ _ _ := by
    cases numberOf g.2 with
    | none => exact Nat.one_pos
    | some k => exact units_pos k

/-- The schedule's payloads can be handed over. -/
instance plan_payload_storable (g : GSem nD τ sig) (r : ℕ) (d : Unit) :
    BI.Storable (upEmb : UEmb _ 𝕄) ((plan (F := F) σ m).payload g r d) := by
  show BI.Storable upEmb ((numberOf g.2).elim iprop(emp) (hands σ m g.1.1))
  cases numberOf g.2 <;> simp only [Option.elim] <;> infer_instance

section Facts
variable (c : Dev nD) (k : Fin 3)

omit [FloatOps F] in
/-- A counter has one payment in its round, -/
theorem plan_duties : (plan (F := F) σ m).duties (counter c k) 0 = {()} := by
  dsimp only [plan]; exact if_pos ⟨rfl, rfl, by rw [numberOf_semOf]; rfl⟩
omit [FloatOps F] in
/-- namely this one, -/
theorem plan_duty_mem : () ∈ (plan (F := F) σ m).duties (counter c k) 0 := by
  rw [plan_duties]; exact Finset.mem_singleton_self _
omit [FloatOps F] in
/-- and none in any later round. -/
theorem plan_over (g : GSem nD τ sig) : ∀ r, 1 ≤ r → (plan (F := F) σ m).duties g r = ∅ :=
  fun r hr => if_neg fun h => by omega
omit [FloatOps F] in
/-- The payment of counter `k` is of `units k` -/
theorem plan_amount : (plan (F := F) σ m).amount (counter c k) 0 () = units k := by
  dsimp only [plan]; rw [numberOf_semOf]; rfl
omit [FloatOps F] in
/-- and hands over `hands c k`, -/
theorem plan_payload : (plan (F := F) σ m).payload (counter c k) 0 () = hands σ m c k := by
  dsimp only [plan]; rw [numberOf_semOf]; rfl
omit [FloatOps F] in
/-- so the round brings `units k` in all. -/
theorem plan_expect : (plan (F := F) σ m).expect (counter c k) 0 = units k := by
  unfold Schedule.expect Schedule.amountOf; rw [plan_duties, Finset.sum_singleton, plan_amount]
omit [FloatOps F] in
/-- What is left to collect of a counter's round when nothing was taken yet. -/
theorem plan_rest : bigSep ((plan (F := F) σ m).duties (counter c k) 0 \ ∅) (fun d => (plan (F := F) σ m).payload (counter c k) 0 d) = hands σ m c k := by
  rw [Finset.sdiff_empty, plan_duties, bigSep_singleton, plan_payload]

end Facts

/-! ## Debts and levels -/

/-- The device whose counter `k` device `c` pays: its source's gate, its own outgoing counter, its destination's
    incoming counter. -/
def payee : Fin 3 → (Dev nD ≃ Dev nD)
  | 0 => σ.symm
  | 1 => Equiv.refl _
  | 2 => σ

/-- After the signal device `c` still owes its destination's incoming counter a block; -/
def owesCopy (c : Dev nD) : CellTallies nD τ sig Unit := tallyAt (counter (σ c) 2) () N
/-- at launch it also owes its source's gate one unit. -/
def owesAll (c : Dev nD) : CellTallies nD τ sig Unit := owesCopy σ c + tallyAt (counter (σ.symm c) 0) () 1

/-- The levels are declared on the main cores' counters. -/
def declared (g : GSem nD τ sig) : Finset Unit := if g.1.2 = .tc then {()} else ∅
/-- The gate lies below the incoming counter, everything else below both. -/
def level (g : GSem nD τ sig) (_ : Unit) : ℕ := if g.2 = semOf 0 then 1 else if g.2 = semOf 2 then 2 else 0

/-- A gate's level is one, -/
theorem level_gate (c : Dev nD) (u : Unit) : level (counter c 0) u = 1 := if_pos rfl
/-- and an incoming counter's is two. -/
theorem level_incoming (c : Dev nD) (u : Unit) : level (counter c 2) u = 2 :=
  (if_neg fun h => by cases h).trans (if_pos rfl)
/-- No level is declared off the main cores, -/
theorem declared_of_ne (g : GSem nD τ sig) (h : g.1.2 ≠ .tc) : declared g = ∅ := if_neg h
/-- and one is declared of every counter of a main core. -/
theorem mem_declared (c : Dev nD) (s : SemLoc sig) (u : Unit) : u ∈ declared ((c : Thread nD τ), s) := by
  unfold declared; rw [if_pos rfl]; exact Finset.mem_singleton_self _

/-- After the signal device `c` owes only its destination's incoming counter, -/
theorem owesCopy_pos {c : Dev nD} {g : GSem nD τ sig} {u : Unit} (h : 0 < owesCopy σ c g u) : g = counter (σ c) 2 := by
  unfold owesCopy at h
  rw [tallyAt_apply] at h
  by_contra hn
  rw [if_neg (fun h' => hn h'.1)] at h
  exact Nat.lt_irrefl 0 h

/-- and at launch only that and its source's gate. -/
theorem owesAll_pos {c : Dev nD} {g : GSem nD τ sig} {u : Unit} (h : 0 < owesAll σ c g u) :
    g = counter (σ c) 2 ∨ g = counter (σ.symm c) 0 := by
  unfold owesAll at h
  rw [Pi.add_apply, Finsupp.add_apply, tallyAt_apply] at h
  by_cases hg : g = counter (σ.symm c) 0
  · exact .inr hg
  · rw [if_neg (fun h' => hg h'.1), Nat.add_zero] at h
    exact .inl (owesCopy_pos σ h)

/-- Waiting on a counter of level 0 is allowed whatever of the launch's debts is open. -/
theorem mayWait_low (c : Dev nD) (s : SemLoc sig) (h0 : s ≠ semOf 0) (h2 : s ≠ semOf 2) (O : CellTallies nD τ sig Unit)
    (hO : O = owesAll σ c ∨ O = 0) : (levAts declared level : sProp 𝕄) ⊢ MayWait (c : Thread nD τ) s () O := by
  rcases hO with rfl | rfl
  · refine MayOwe.of_cut (L := declared) (lev := level) 0
      (fun p hp => by rw [Finset.mem_singleton.mp hp]; exact mem_declared _ _ _)
      (fun g u hg => by rcases owesAll_pos σ hg with rfl | rfl <;> exact mem_declared _ _ _)
      (fun p hp => by rw [Finset.mem_singleton.mp hp]; dsimp only [level]; rw [if_neg h0, if_neg h2])
      (fun g u hg => by
        rcases owesAll_pos σ hg with rfl | rfl
        · rw [level_incoming]; exact Nat.two_pos
        · rw [level_gate]; exact Nat.one_pos)
  · rw [MayWait_zero]; iintro -; iempintro

/-- Waiting at the gate is allowed while the copy is still owed. -/
theorem mayWait_gate (c : Dev nD) : (levAts declared level : sProp 𝕄) ⊢ MayWait (c : Thread nD τ) (.reg barS) () (owesCopy σ c) :=
  MayOwe.of_cut (L := declared) (lev := level) 1
    (fun p hp => by rw [Finset.mem_singleton.mp hp]; exact mem_declared _ _ _)
    (fun g u hg => by rw [owesCopy_pos σ hg]; exact mem_declared _ _ _)
    (fun p hp => by rw [Finset.mem_singleton.mp hp]; dsimp only [level]; rw [if_pos rfl])
    (fun g u hg => by rw [owesCopy_pos σ hg, level_incoming]; exact Nat.one_lt_two)

end Cert.Permute

end
-- ==== Proof.Body.lean ====
/-
What one device's kernel does: the pipeline's proof data for the exchange under a permutation σ, and the body run
from the block and the result array as launched to the result array holding the source's block.
-/
module

public import proofs.«01_k».proof.Proof.Schedule

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (σ : Dev nD ≃ Dev nD)
variable (m : (ℓ : Loc nD τ sig) → Buf (Elt F) ℓ)

/-! ## The ghost state -/

/-- The shared knowledge: every counter's invariant, under the names `κ`, and that every counter is in its round. -/
def shared (κ : Dev nD × Fin 3 → ℕ) : sProp 𝕄 :=
  iprop((bigSep Finset.univ fun x : Dev nD × Fin 3 => cellInv EX (plan (F := F) σ m) (κ x) (counter x.1 x.2))
    ∗ bigSep Finset.univ fun x : Dev nD × Fin 3 => reached EX (counter x.1 x.2) 0)

/-- The shared knowledge can be used any number of times. -/
instance shared_persistent (κ : Dev nD × Fin 3 → ℕ) : BI.Persistent (shared (F := F) σ m κ) := by
  unfold shared; infer_instance

/-- The shared knowledge says of each counter its invariant -/
theorem shared_inv (κ : Dev nD × Fin 3 → ℕ) (c : Dev nD) (k : Fin 3) :
    shared σ m κ ⊢ cellInv EX (plan (F := F) σ m) (κ (c, k)) (counter c k) := by
  unfold shared
  iintro ⟨H, -⟩
  iapply (show (bigSep Finset.univ fun x : Dev nD × Fin 3 => (cellInv EX (plan (F := F) σ m) (κ x) (counter x.1 x.2) : sProp 𝕄))
    ⊢ cellInv EX (plan (F := F) σ m) (κ (c, k)) (counter c k) from bigSep_elim (Finset.mem_univ (c, k)))
  iexact H
/-- and that it is in its round. -/
theorem shared_reached (κ : Dev nD × Fin 3 → ℕ) (c : Dev nD) (k : Fin 3) :
    shared σ m κ ⊢ (reached EX (counter c k) 0 : sProp 𝕄) := by
  unfold shared
  iintro ⟨-, H⟩
  iapply (show (bigSep Finset.univ fun x : Dev nD × Fin 3 => (reached EX (counter x.1 x.2) 0 : sProp 𝕄))
    ⊢ reached EX (counter c k) 0 from bigSep_elim (Finset.mem_univ (c, k)))
  iexact H

/-- What device `c` has of its own: its place at its three counters and the right to the three payments it makes. -/
def own (c : Dev nD) : sProp 𝕄 :=
  iprop((bigSep Finset.univ fun k : Fin 3 => atPos EX (counter c k) 0 ∅ 0)
    ∗ bigSep Finset.univ fun k : Fin 3 => dutyTok EX (counter (payee σ k c) k) 0 ())

/-- Both, under some names. -/
def ghost (c : Dev nD) : sProp 𝕄 := iprop(∃ κ, shared σ m κ ∗ own (F := F) σ c)

/-- What device `c` starts from besides its arrays: the ghost state, the credit of its gate and of its incoming
    counter, the levels. -/
def start (c : Dev nD) : sProp 𝕄 :=
  iprop(ghost σ m c ∗ (cred (tallyAt (counter c 0) () 1) ∗ cred (tallyAt (counter c 2) () N)) ∗ levAts declared level)

/-- Before the kernel: that, the block and the result array as launched. -/
def before (c : Dev nD) : sProp 𝕄 :=
  iprop(start σ m c ∗ holdsBlock m c ∗ ∃ f, holdsResult c f)

/-- After the kernel: the block unchanged, the result array filled, the three counters back at zero. -/
def after (c : Dev nD) : sProp 𝕄 :=
  iprop(holdsBlock m c ∗ holdsResult c (arrived σ m c) ∗ semVal (counter c 0) 0 ∗ semVal (counter c 1) 0 ∗ semVal (counter c 2) 0)

/-- The proof data of the pipeline on device `c`: the one window is the table, which the kernel leaves alone. -/
def datas (_ : Fin 1) (c : Dev nD) : Dat τ (Elt F) Unit ℕ Ghost ℕ cfg0 c where
  A w := m ((cfg0.win w).arr.view.loc (c : Thread nD τ))
  after w _ := match w with
    | ⟨0, _⟩ => staged m c
  Φ t := match t with
    | ⟨0, _⟩ => before σ m c
    | ⟨_ + 1, _⟩ => after σ m c
  q _ := fullShare
  owed t := match t with
    | ⟨0, _⟩ => owesAll σ c
    | ⟨_ + 1, _⟩ => 0

/-- The kernel has no variant. -/
abbrev 𝒱₀ : Variants := Variants.none

omit [FloatOps F] in
/-- Three things in a row. -/
theorem three (Φ : Fin 3 → sProp 𝕄) : bigSep Finset.univ Φ = iprop(Φ 0 ∗ Φ 1 ∗ Φ 2) :=
  bigSep_univ_eq_bigSepL [0, 1, 2] (by decide) (by decide) Φ

/-! ## The steps -/

section Steps
variable (κ : Dev nD × Fin 3 → ℕ)

/-- The handshake's signal: the source, named by `d`, is lent the result array of `c`. -/
theorem signal_source (c d : Dev nD) (hd : d = σ.symm c) (W : Waits sig Unit) (f : Buf (Elt F) ((c : Thread nD τ).loc main_v1))
    {α : Type} {Q : α → sProp 𝕄} {k : PUnit → Prog (TpuEff nD τ sig (Elt F) Λ₀ .tc) α} :
    iprop(shared σ m κ ∗ owes (c : Thread nD τ) (owesAll σ c) W ∗ dutyTok EX (counter (σ.symm c) 0) 0 () ∗ holdsResult c f)
      ⊢ iprop((owes (c : Thread nD τ) (owesCopy σ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc d) barS (1#32 : BitVec 32).toInt) k) Q) := by
  subst hd
  rw [show (1#32 : BitVec 32).toInt = ((1#32 : BitVec 32).toNat : Int) from rfl]
  iintro ⟨#HS, HO, Ht, Hf⟩ Hk
  iapply (Rounds.wp_signal 𝒱₀ EX (plan σ m) (c : Thread nD τ) none (dst := (σ.symm c : Thread nD τ)) (κ := κ (σ.symm c, 0))
      (d := ()) (plan_duty_mem σ m (σ.symm c) 0) ((plan_amount σ m (σ.symm c) 0).trans rfl) () (owesCopy σ c) rfl) $$ [HO Ht Hf]
  · isplitr; · iapply (shared_inv σ m κ (σ.symm c) 0); iexact HS
    isplitl [HO]; · iexact HO
    isplitl [Ht]; · iexact Ht
    isplitl [Hf]
    · iapply (Entails.of_eq (plan_payload σ m (σ.symm c) 0).symm)
      dsimp only [hands]; rw [Equiv.apply_symm_apply]
      isplitl [Hf]; · iexists f; iexact Hf
      iapply (shared_reached σ m κ c 2); iexact HS
    · iapply (shared_reached σ m κ (σ.symm c) 0); iexact HS
  iexact Hk

/-- Copying a whole block over a whole result array leaves the block's contents there. -/
theorem copied (fd : (main_v1 : Ref sig .tc).ty.Contents (Elt F)) (fs : (main_arg0 : Ref sig .tc).ty.Contents (Elt F)) :
    (Memref.whole main_v1 : Memref sig .tc .hbm S1x256x256 .f32).view.write (Elt F) fd
      ((Memref.whole main_arg0 : Memref sig .tc .hbm S1x256x256 .f32).view.read (Elt F) fs) Finset.univ = fs := by
  show (View.whole main_v1).write (Elt F) fd ((View.whole main_arg0).read (Elt F) fs) Finset.univ = fs
  rw [View.read_whole]
  exact View.write_whole_univ _ _ _

/-- The copy into the destination, named by `d`: the block leaves, and the last debt with it. -/
theorem copy_out (c d : Dev nD) (hd : d = σ c)
    {hsc : (Memref.whole main_v1 : Memref sig (Dev.tc d : Thread nD τ).2.kind .hbm S1x256x256 .f32).view.ref.isScScratch = false}
    {hsrc : (Memref.whole main_arg0 : Memref sig .tc .hbm S1x256x256 .f32).view.WordExact}
    {hdst : (Memref.whole main_v1 : Memref sig .tc .hbm S1x256x256 .f32).view.WordExact}
    {hsem : DmaTarget.Typed .hbm (.dma cc0_scratch1.sem) (.remote (Dev.tc d : Thread nD τ) (Memref.whole main_v1 : Memref sig .tc .hbm S1x256x256 .f32) (.dma cc0_scratch0.sem) hsc)}
    {α : Type} {Q : α → sProp 𝕄} {k : PUnit → Prog (TpuEff nD τ sig (Elt F) Λ₀ .tc) α}
    (f : Buf (Elt F) ((σ c : Thread nD τ).loc main_v1)) (W : Waits sig Unit) :
    iprop(shared σ m κ ∗ holdsBlock m c ∗ holdsResult (σ c) f ∗ owes (c : Thread nD τ) (owesCopy σ c) W
        ∗ dutyTok EX (counter c 1) 0 () ∗ dutyTok EX (counter (σ c) 2) 0 ())
      ⊢ iprop(((cred (tallyAt (counter c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole main_arg0) (.remote (Dev.tc d : Thread nD τ) (Memref.whole main_v1) (.dma cc0_scratch0.sem) hsc) (.dma cc0_scratch1.sem) hsrc hdst hsem) k) Q) := by
  subst hd
  iintro ⟨#HS, Hb, Hf, HO, Ht1, Ht2⟩ Hk
  ihave #I1 := (shared_inv σ m κ c 1) $$ HS
  ihave #I2 := (shared_inv σ m κ (σ c) 2) $$ HS
  ihave #R1 := (shared_reached σ m κ c 1) $$ HS
  ihave #R2 := (shared_reached σ m κ (σ c) 2) $$ HS
  iapply (Rounds.wp_send_pointsTo 𝒱₀ EX (plan σ m) (c : Thread nD τ) none (κ₁ := κ (c, 1)) (κ₂ := κ (σ c, 2))
    (r₁ := 0) (r₂ := 0) (d₁ := ()) (d₂ := ()) (fs := m ((c : Thread nD τ).loc main_arg0)) (fd := f)
    (plan_duty_mem σ m c 1) (plan_duty_mem σ m (σ c) 2)
    () () N rfl (plan_amount σ m c 1) (plan_amount σ m (σ c) 2) 0 (by rw [zero_add]) (W := W)
    (by rw [plan_payload, View.set_whole]; exact BI.Entails.refl _)
    (by rw [plan_payload, copied, View.set_whole]; unfold hands holdsResult arrived; rw [Equiv.symm_apply_apply])) $$ [Hb Hf HO Ht1 Ht2]
  · isplitr; · iexact I1
    isplitr; · iexact I2
    isplitl [Hb]; · rw [View.set_whole]; unfold holdsBlock; iexact Hb
    isplitl [Hf]; · rw [View.set_whole]; unfold holdsResult; iexact Hf
    isplitl [HO]; · iexact HO
    isplitl [Ht1]; · iexact Ht1
    isplitr; · iexact R1
    isplitl [Ht2]; · iexact Ht2
    iexact R2
  iexact Hk

/-- A wait for the whole of counter `k`'s round, by any instruction `w` that waits on its semaphore for that many
    units: what the payment handed over is the device's. -/
theorem collect (c : Dev nD) (k : Fin 3) {w : TpuEff nD τ sig (Elt F) Λ₀ .tc PUnit} {n : ℕ}
    (hw : ∀ R : PUnit → sProp 𝕄, wpE (defs₀ (F := F)) 𝒱₀ (c : Thread nD τ) none Set.univ w R = waitSpec (c : Thread nD τ) Set.univ (semOf k) n R)
    (O : CellTallies nD τ sig Unit) (W : Waits sig Unit) (hn : n = units k)
    {α : Type} {Q : α → sProp 𝕄} {next : PUnit → Prog (TpuEff nD τ sig (Elt F) Λ₀ .tc) α} :
    iprop(shared σ m κ ∗ cred (tallyAt (counter c k) () n) ∗ owes (c : Thread nD τ) O W ∗ MayWait (c : Thread nD τ) (semOf k) () O
        ∗ atPos EX (counter c k) 0 ∅ 0)
      ⊢ iprop(((owes (c : Thread nD τ) O (insert (semOf k, ()) W) ∗ atPos EX (counter c k) (0 + 1) ∅ 0 ∗ hands σ m c k)
            -∗ wp frame (wpE (defs₀ (F := F)) 𝒱₀ (c : Thread nD τ) none) Set.univ (next ⟨⟩) Q)
          -∗ wp frame (wpE (defs₀ (F := F)) 𝒱₀ (c : Thread nD τ) none) Set.univ (.op w next) Q) := by
  iintro ⟨#HS, Hc, HO, Hm, Ha⟩ Hk
  ihave #I := (shared_inv σ m κ c k) $$ HS
  iapply (Rounds.wp_wait_rest_token 𝒱₀ EX (plan σ m) (c : Thread nD τ) none (κ := κ (c, k)) hw (Set.mem_univ _) ()
      (O := O) (W := W) (R := 0) (m := 0) (T := ∅) (by rw [Nat.zero_add, plan_expect, hn])) $$ [Hc HO Hm Ha]
  · isplitr; · iexact I
    isplitl [Hc]; · iexact Hc
    isplitl [HO]; · iexact HO
    isplitl [Hm]; · iexact Hm
    iexact Ha
  iintro ⟨HO, Ha, -, Hp⟩
  ihave Hp := (Entails.of_eq (plan_rest σ m c k)) $$ Hp
  iapply Hk
  isplitl [HO]; · iexact HO
  isplitl [Ha] <;> iassumption

/-- A counter whose round was collected closes: it is the device's own again, at zero. -/
theorem close (c : Dev nD) (k : Fin 3) :
    iprop(shared σ m κ ∗ atPos EX (counter c k) (0 + 1) ∅ 0) ⊢ (|={Set.univ}=> semVal (counter c k) 0 : sProp 𝕄) := by
  iintro ⟨#HS, Ha⟩
  ihave #I := (shared_inv σ m κ c k) $$ HS
  imod (Rounds.cell_close EX (plan σ m) (Set.mem_univ (κ (c, k))) (fun h => h) (R := 0 + 1) (plan_over σ m (counter c k))) $$ [Ha] with Hz
  · isplitr; · iexact I
    iexact Ha
  imodintro; iexact Hz

end Steps

end Cert.Permute

end
-- ==== Proof.Run.lean ====
/-
The kernel's body run on one device, when every device's table is the permutation σ: from the block and the result
array as launched to the result array holding the source's block, and that run as the pipeline's obligation.
-/
module

public import proofs.«01_k».proof.Proof.Body
public import proofs.«01_k».proof.Proof.Gen.KernelIdeal.Points

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (σ : Dev nD ≃ Dev nD)
variable (m : (ℓ : Loc nD τ sig) → Buf (Elt F) ℓ)

/-- The staged table's sixteen words are the permutation. -/
theorem words (h : Agrees m σ) (c : Dev nD) (j : Dev nD) (o : Fin 1 → Nat) (hb : ∀ a, o a + S1.size a ≤ S16.size a)
    (ho : o = fun _ => j.val) : wordAt m c o hb = BitVec.ofNat 32 (σ j).val :=
  (wordAt_eq m c j o hb ho).trans (h c j)

/-- The table's word at position `o`, as the kernel loads it. -/
abbrev loaded (c : Dev nD) (o : Nat) (h : ∀ a, (![o] : Fin 1 → Nat) a + S1.size a ≤ S16.size a) : BitVec 32 := wordAt m c ![o] h

/-- Every device's position is inside the table. -/
theorem slot_inside (j : Dev nD) : ∀ a : Fin 1, (![j.val] : Fin 1 → Nat) a + S1.size a ≤ S16.size a := by
  revert j; decide

/-- The word the kernel loads at its own position. -/
abbrev ownLoaded (c : Dev nD) : BitVec 32 := wordAt m c (k0_off1 c) (k0_off1_inb c)

/-- The device computed from the loaded words is the source; -/
theorem source_eq (h : Agrees m σ) (c : Dev nD) :
    k0_dev1 c
      (loaded m c 0 inb_S16_S1_0) (loaded m c 1 inb_S16_S1_1) (loaded m c 2 inb_S16_S1_2) (loaded m c 3 inb_S16_S1_3)
      (loaded m c 4 inb_S16_S1_4) (loaded m c 5 inb_S16_S1_5) (loaded m c 6 inb_S16_S1_6) (loaded m c 7 inb_S16_S1_7)
      (loaded m c 8 inb_S16_S1_8) (loaded m c 9 inb_S16_S1_9) (loaded m c 10 inb_S16_S1_10) (loaded m c 11 inb_S16_S1_11)
      (loaded m c 12 inb_S16_S1_12) (loaded m c 13 inb_S16_S1_13) (loaded m c 14 inb_S16_S1_14) (loaded m c 15 inb_S16_S1_15) = (σ.symm c).val :=
  source_of_words σ c (fun j => loaded m c j.val (slot_inside j)) fun j => words σ m h c j _ _ (funext fun a => by fin_cases a; rfl)

/-- it is a device; -/
theorem source_ok (h : Agrees m σ) (c : Dev nD) :
    k0_chk1 c
      (loaded m c 0 inb_S16_S1_0) (loaded m c 1 inb_S16_S1_1) (loaded m c 2 inb_S16_S1_2) (loaded m c 3 inb_S16_S1_3)
      (loaded m c 4 inb_S16_S1_4) (loaded m c 5 inb_S16_S1_5) (loaded m c 6 inb_S16_S1_6) (loaded m c 7 inb_S16_S1_7)
      (loaded m c 8 inb_S16_S1_8) (loaded m c 9 inb_S16_S1_9) (loaded m c 10 inb_S16_S1_10) (loaded m c 11 inb_S16_S1_11)
      (loaded m c 12 inb_S16_S1_12) (loaded m c 13 inb_S16_S1_13) (loaded m c 14 inb_S16_S1_14) (loaded m c 15 inb_S16_S1_15) := by
  unfold k0_chk1; rw [source_eq σ m h c]; exact (σ.symm c).isLt

/-- the device read at the own position is the destination, -/
theorem dest_eq (h : Agrees m σ) (c : Dev nD) : k0_dev2 (ownLoaded m c) = (σ c).val :=
  dest_of_word (σ c) _ (words σ m h c c _ _ (ownOffset c))

/-- which is a device too. -/
theorem dest_ok (h : Agrees m σ) (c : Dev nD) : k0_chk2 (ownLoaded m c) := by
  unfold k0_chk2; rw [dest_eq σ m h c]; exact (σ c).isLt

/-- A whole buffer `b` of device `c` known to hold `X`. -/
abbrev holding (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The pipeline without a grid has one point. -/
theorem points (t : Fin cfg0.N) : t = t0_0 := fin_N0 t

/-- The pipeline's statement of the state around the body: before it -/
def entry (c : Dev nD) : sProp 𝕄 :=
  iprop(before σ m c ∗ (datas σ m 0 c).owesAt () t0_0.castSucc ∗ (∃ d, holding c cc0_stg0_0 ((datas σ m 0 c).before (0 : Fin 1) t0_0 d)))
/-- and after it. -/
def exit (c : Dev nD) : sProp 𝕄 :=
  iprop(after σ m c ∗ (datas σ m 0 c).owesAt () t0_0.succ ∗ holding c cc0_stg0_0 (staged m c))

/-- A load of the staged table leaves it as it is. -/
theorem load_table (c : Dev nD) {r : Rect S16} {hl : (Memref.whole cc0_stg0_0 : Memref sig .tc .smem S16 .i32).view.LoadsAt r.toLoadRect}
    {f : (cc0_stg0_0 : Ref sig .tc).ty.Contents (Elt F)}
    {α : Type} {Q : α → sProp 𝕄} {k : (r.shape.Idx → Elt F .i32) → Prog (TpuEff nD τ sig (Elt F) Λ₀ .tc) α} :
    iprop(((c : Thread nD τ).loc cc0_stg0_0) ↦{fullShare} f)
      ⊢ iprop((iprop(((c : Thread nD τ).loc cc0_stg0_0) ↦{fullShare} f)
            -∗ wp frame (wpE (defs₀ (F := F)) 𝒱₀ (c : Thread nD τ) none) Set.univ
                (k (((Memref.whole cc0_stg0_0).access r : View sig .tc _ _ _).read (Elt F) f)) Q)
          -∗ wp frame (wpE (defs₀ (F := F)) 𝒱₀ (c : Thread nD τ) none) Set.univ
              (.op (.load (Memref.whole cc0_stg0_0 : Memref sig .tc .smem S16 .i32) r.toLoadRect hl) k) Q) :=
  wp_load_rect 𝒱₀ (c : Thread nD τ) none Set.univ (m := (Memref.whole cc0_stg0_0 : Memref sig .tc .smem S16 .i32)) (r := r) (Finset.subset_univ _)

set_option maxHeartbeats 4000000 in
set_option maxRecDepth 65536 in
/-- The body, from its entry to its exit, effect by effect in the order of the program. -/
theorem body_run (h : Agrees m σ) (c : Dev nD) :
    entry σ m c ⊢ wp frame (wpE (defs₀ (F := F)) 𝒱₀ c none) Set.univ
      (cc0_body (Memref.whole main_arg0) (Memref.isWhole_whole _) (Memref.whole cc0_stg0_0) (Memref.isWhole_whole _)
        (Memref.whole main_v1) (Memref.isWhole_whole _) cc0_scratch0 cc0_scratch1) (fun _ => exit σ m c) := by
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold entry before start ghost own
  simp only [three]
  iintro ⟨⟨⟨⟨%κ, #HS, ⟨Ha0, Ha1, Ha2⟩, ⟨Ht0, Ht1, Ht2⟩⟩, ⟨Hc0, Hc2⟩, #Hlev⟩, Hb, ⟨%f, Hf⟩⟩, Ho, ⟨%d0, %g0, %hg0, Ht⟩⟩
  have hg : g0 = staged m c := by rw [hg0]; unfold Dat.before; rw [if_pos (fetch0_0 t0_0)]; rfl
  subst hg
  unfold Dat.owesAt Pipeline.owesWithin
  icases Ho with ⟨%W, %hW, HO⟩
  rw [show (datas σ m 0 c).owed t0_0.castSucc = owesAll σ c from rfl]
  iapply (load_table c) $$ Ht; iintro Ht
  simp only [wp_assume_of _ _ _ _ (d := k0_chk2.dec _) (dest_ok σ m h c)]
  iterate 16 (iapply (load_table c) $$ Ht; iintro Ht)
  simp only [wp_assume_of _ _ _ _ (d := k0_chk1.dec _ _ _ _ _ _ _ _ _ _ _ _ _ _ _ _ _) (source_ok σ m h c)]
  -- the handshake: the source is lent the result array, and the destination's is awaited
  iapply (signal_source σ m κ c _ (Fin.ext (source_eq σ m h c)) W f) $$ [HO Ht0 Hf]
  · isplitr; · iexact HS
    isplitl [HO]; · iexact HO
    isplitl [Ht0]; · iexact Ht0
    iexact Hf
  iintro HO
  iapply (collect σ m κ c 0 (wpE_semWait_eq 𝒱₀ (c : Thread nD τ) none Set.univ) (owesCopy σ c) W rfl) $$ [Hc0 HO Ha0]
  · isplitr; · iexact HS
    isplitl [Hc0]; · iexact Hc0
    isplitl [HO]; · iexact HO
    isplitr; · iapply (mayWait_gate σ c); iexact Hlev
    iexact Ha0
  iintro ⟨HO, Ha0, Hp⟩
  dsimp only [hands]
  icases Hp with ⟨⟨%fd, Hfd⟩, -⟩
  -- the copy into the destination's result array
  iapply (copy_out σ m κ c _ (Fin.ext (dest_eq σ m h c)) fd (insert (semOf 0, ()) W)) $$ [Hb Hfd HO Ht1 Ht2]
  · isplitr; · iexact HS
    isplitl [Hb]; · iexact Hb
    isplitl [Hfd]; · iexact Hfd
    isplitl [HO]; · iexact HO
    isplitl [Ht1]; · iexact Ht1
    iexact Ht2
  iintro ⟨Hc1, HO⟩
  -- the wait for the own copy to leave: the block is back
  iapply (collect σ m κ c 1 (wpE_waitDma2_eq 𝒱₀ (c : Thread nD τ) none Set.univ (src := Memref.whole main_v1) (dst := Memref.whole main_arg0)) 0 (insert (semOf 0, ()) W) rfl) $$ [Hc1 HO Ha1]
  · isplitr; · iexact HS
    isplitl [Hc1]; · iexact Hc1
    isplitl [HO]; · iexact HO
    isplitr; · rw [MayWait_zero]; iempintro
    iexact Ha1
  iintro ⟨HO, Ha1, Hb⟩
  -- the wait for the source's copy to arrive: the result array is filled
  iapply (collect σ m κ c 2 (wpE_waitDma2_eq 𝒱₀ (c : Thread nD τ) none Set.univ (src := Memref.whole main_arg0) (dst := Memref.whole main_v1)) 0 (insert (semOf 1, ()) (insert (semOf 0, ()) W)) rfl) $$ [Hc2 HO Ha2]
  · isplitr; · iexact HS
    isplitl [Hc2]; · iexact Hc2
    isplitl [HO]; · iexact HO
    isplitr; · rw [MayWait_zero]; iempintro
    iexact Ha2
  iintro ⟨HO, Ha2, Hf⟩
  -- the counters close
  imod (close σ m κ c 0) $$ [Ha0] with Hz0
  · isplitr; · iexact HS
    iexact Ha0
  imod (close σ m κ c 1) $$ [Ha1] with Hz1
  · isplitr; · iexact HS
    iexact Ha1
  imod (close σ m κ c 2) $$ [Ha2] with Hz2
  · isplitr; · iexact HS
    iexact Ha2
  rw [wp_ret]; imodintro
  unfold exit after Dat.owesAt Pipeline.owesWithin
  rw [show (datas σ m 0 c).owed t0_0.succ = 0 from rfl]
  dsimp only [hands]
  isplitl [Hb Hf Hz0 Hz1 Hz2]
  · isplitl [Hb]; · iexact Hb
    isplitl [Hf]; · iexact Hf
    isplitl [Hz0]; · iexact Hz0
    isplitl [Hz1] <;> iassumption
  isplitl [HO]
  · iexists (insert (semOf 2, ()) (insert (semOf 1, ()) (insert (semOf 0, ()) W)))
    isplitr; · ipureintro; exact fun _ _ => Or.inl trivial
    iexact HO
  iexists _; isplitr; · (ipureintro; rfl)
  iexact Ht

omit [FloatOps F] in
/-- Owning a whole buffer with the contents `X` is holding it. -/
theorem owns_holding (c : Dev nD) (b : Ref sig .tc) (X : b.ty.Contents (Elt F)) :
    (owns (Ix := Unit) (Name := ℕ) (U := Ghost) (Lvl := ℕ) (c : Thread nD τ) (Memref.whole b) fullShare X : sProp 𝕄) = holding c b X := by
  unfold owns; simp only [Memref.view_whole, View.read_whole, View.set_whole]

set_option maxRecDepth 4000 in
/-- The pipeline's obligation for the body on device `c`. -/
theorem obligation (h : Agrees m σ) (c : Dev nD) : BodyObligation (datas (F := F) σ m 0 c) (defs₀ (F := F)) 𝒱₀ () Set.univ := fun t => by
  rw [points t, bigSep_W0, bigSep_W0]
  simp only [owns_holding]
  exact body_run σ m h c

end Cert.Permute

end
-- ==== Proof.Launch.lean ====
/-
The launch: the counters and the payment rights dealt to the devices, the credits they start with, and the run of the
whole program — when every device's table is the permutation σ it ends with device c's result array holding the block
of σ⁻¹ c, the arguments as they were and every counter at zero.
-/
module

public import proofs.«01_k».proof.Proof.Run
public import Idealize.ShloMosaic.Lib.Pipeline.CollectiveSegs

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (σ : Dev nD ≃ Dev nD)
variable (m : (ℓ : Loc nD τ sig) → Buf (Elt F) ℓ)

/-! ## Dealing the ghost state -/

/-- Different devices or numbers name different counters. -/
theorem counters_distinct : Function.Injective fun x : Dev nD × Fin 3 => counter x.1 x.2 := fun x y h =>
  Prod.ext (counter_inj h).1 (counter_inj h).2

/-- All counters of the exchange, -/
def counters : Finset (GSem nD τ sig) := Finset.univ.map ⟨fun x : Dev nD × Fin 3 => counter x.1 x.2, counters_distinct⟩
/-- and the right to pay each in its round. -/
def rights : Finset (GSem nD τ sig × ℕ × Unit) :=
  Finset.univ.map ⟨fun x : Dev nD × Fin 3 => (counter x.1 x.2, 0, ()), fun _ _ h => counters_distinct (congrArg Prod.fst h)⟩

/-- The launch's ghost element: the pipeline's and the exchange's. -/
def launchGhost : Ghost :=
  (initOf (Pipeline.cells cfgs cellOf_inj) (Pipeline.launchToks cfgs cellOf_inj), initOf counters rights)

/-- Something for every counter of device `c`. -/
abbrev each (Φ : GSem nD τ sig → sProp 𝕄) (c : Dev nD) : sProp 𝕄 := bigSep Finset.univ fun k : Fin 3 => Φ (counter c k)

/-- What the launch deals device `c`: of each of ITS counters the state, the place, the mark and the payment right. -/
def dealt (c : Dev nD) : sProp 𝕄 :=
  iprop((each (fun g => roundState EX (plan (F := F) σ m) g 0) c ∗ each (fun g => reached EX g 0) c)
    ∗ each (fun g => atPos EX g 0 ∅ 0) c ∗ each (fun g => dutyTok EX g 0 ()) c)

omit [FloatOps F] in
/-- An assertion of every counter is, device by device, the assertion of its three counters. -/
theorem over_counters (Φ : GSem nD τ sig → sProp 𝕄) : bigSep counters Φ = bigSep Finset.univ (each Φ) := by
  unfold counters each; rw [bigSep_map, bigSep_univ_prod]; rfl
omit [FloatOps F] in
/-- All the payment rights are, device by device, those of its three counters. -/
theorem over_rights : bigSep rights (fun x => (dutyTok EX x.1 x.2.1 x.2.2 : sProp 𝕄)) = bigSep Finset.univ (each fun g => dutyTok EX g 0 ()) := by
  unfold rights each; rw [bigSep_map, bigSep_univ_prod]; rfl

omit [FloatOps F] in
/-- The exchange's ghost element is dealt. -/
theorem deal : BI.own (EX (initOf counters rights)) ⊢ (|==> bigSep Finset.univ (dealt (F := F) σ m) : sProp 𝕄) := by
  iintro H
  imod (Rounds.fund EX (plan σ m) counters rights) $$ H with ⟨Hs, Hr, Ha, Ht⟩
  imodintro
  unfold dealt; simp only [bigSep_sep']
  isplitl [Hs Hr]
  · isplitl [Hs]
    · iapply (Entails.of_eq (over_counters fun g => roundState EX (plan σ m) g 0)); iexact Hs
    · iapply (Entails.of_eq (over_counters fun g => reached EX g 0)); iexact Hr
  isplitl [Ha]
  · iapply (Entails.of_eq (over_counters fun g => atPos EX g 0 ∅ 0)); iexact Ha
  · iapply (Entails.of_eq over_rights); iexact Ht

omit [FloatOps F] in
/-- The kernel's own two semaphores at zero, -/
theorem ownSems_eq (c : Dev nD) : (Pipeline.ownSems0 (Ix := Unit) (Name := ℕ) (U := Ghost) (Lvl := ℕ) (Val := Elt F) (τ := τ) ownSem c : sProp 𝕄)
    = iprop(semVal (counter c 1) 0 ∗ semVal (counter c 2) 0) := by
  rw [Pipeline.ownSems0_eq_of_list c ownSem [0, 1] (by decide) (by decide)]; rfl
omit [FloatOps F] in
/-- and the barrier's. -/
theorem freeSems_eq (c : Dev nD) : (unscopedSems0 c : sProp 𝕄) = semVal (counter c 0) 0 := by
  unfold unscopedSems0; rw [bigSep_eq_bigSepL_of_eq [semOf 0] (by decide) (by decide)]; rfl

omit [FloatOps F] in
/-- On one device: its three counters, at zero, become invariants. -/
theorem enclose (c : Dev nD) :
    iprop(Pipeline.ownSems0 (Ix := Unit) (Name := ℕ) (U := Ghost) (Lvl := ℕ) (Val := Elt F) (τ := τ) ownSem c ∗ unscopedSems0 c ∗ dealt σ m c)
      ⊢ |={Set.univ}=> iprop(((bigSep Finset.univ fun k : Fin 3 => iprop(∃ κ : ℕ, cellInv EX (plan (F := F) σ m) κ (counter c k)))
            ∗ each (fun g => reached EX g 0) c)
          ∗ each (fun g => atPos EX g 0 ∅ 0) c ∗ each (fun g => dutyTok EX g 0 ()) c) := by
  unfold dealt
  rw [ownSems_eq, freeSems_eq]
  iintro ⟨⟨H1, H2⟩, H0, ⟨Hs, Hr⟩, Hrest⟩
  imod (show iprop((bigSep Finset.univ fun k : Fin 3 => semVal (counter c k) 0) ∗ bigSep Finset.univ fun k : Fin 3 => roundState EX (plan (F := F) σ m) (counter c k) 0)
      ⊢ (|={Set.univ}=> bigSep Finset.univ fun k : Fin 3 => iprop(∃ κ : ℕ, cellInv EX (plan (F := F) σ m) κ (counter c k)) : sProp 𝕄) from by
        rw [← bigSep_sep']
        exact (bigSep_mono fun k _ => (Rounds.body_intro EX (plan σ m) (counter c k)).trans inv_alloc).trans (bigSep_fupd _ _)) $$ [H0 H1 H2 Hs] with HI
  · isplitr [Hs]
    · simp only [three]
      isplitl [H0]; · iexact H0
      isplitl [H1] <;> iassumption
    · iexact Hs
  imodintro
  isplitl [HI Hr]
  · isplitl [HI] <;> iassumption
  iexact Hrest

/-- From the device that pays a counter to the device whose counter it is. -/
def pays : Dev nD × Fin 3 ≃ Dev nD × Fin 3 where
  toFun x := (payee σ x.2 x.1, x.2)
  invFun x := ((payee σ x.2).symm x.1, x.2)
  left_inv x := Prod.ext (Equiv.symm_apply_apply _ _) rfl
  right_inv x := Prod.ext (Equiv.apply_symm_apply _ _) rfl

omit [FloatOps F] in
/-- The payment rights change hands: each goes from the counter's device to the device that pays it. -/
theorem hand_round :
    (bigSep Finset.univ (each (F := F) fun g => dutyTok EX g 0 ())) ⊢
      (bigSep Finset.univ fun c : Dev nD => bigSep Finset.univ fun k : Fin 3 => dutyTok EX (counter (payee σ k c) k) 0 () : sProp 𝕄) := by
  refine Entails.of_eq ((bigSep_univ_prod fun x : Dev nD × Fin 3 => (dutyTok EX (counter x.1 x.2) 0 () : sProp 𝕄)).symm.trans ?_)
  rw [bigSep_univ_equiv (pays σ), bigSep_univ_prod]
  rfl

omit [FloatOps F] in
/-- What everybody knows can be given to each. -/
theorem give_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' shares put together and dealt again: each device has its ghost state. -/
theorem redeal :
    (bigSep Finset.univ fun c : Dev nD => iprop(((bigSep Finset.univ fun k : Fin 3 => iprop(∃ κ : ℕ, cellInv EX (plan (F := F) σ m) κ (counter c k)))
            ∗ each (fun g => reached EX g 0) c)
          ∗ each (fun g => atPos EX g 0 ∅ 0) c ∗ each (fun g => dutyTok EX g 0 ()) c) : sProp 𝕄)
      ⊢ bigSep Finset.univ (ghost σ m) := by
  rw [bigSep_sep', bigSep_sep', bigSep_sep']
  iintro ⟨⟨HI, #HR⟩, Ha, Ht⟩
  ihave Ht := (hand_round (F := F) σ) $$ Ht
  ihave HI := (Entails.of_eq (bigSep_univ_prod fun x : Dev nD × Fin 3 => iprop(∃ κ : ℕ, cellInv EX (plan (F := F) σ m) κ (counter x.1 x.2))).symm) $$ HI
  ihave HI := (BI.bigSep_exists_pi Finset.univ (fun (x : Dev nD × Fin 3) (κ : ℕ) => (cellInv EX (plan (F := F) σ m) κ (counter x.1 x.2) : sProp 𝕄))) $$ HI
  icases HI with ⟨%κ, #HI⟩
  iapply (give_all (R := shared (F := F) σ m κ) (Φ := own (F := F) σ) fun c _ => (show iprop(shared (F := F) σ m κ ∗ own (F := F) σ c) ⊢ ghost σ m c from by
    unfold ghost; iintro H; iexists κ; iexact H))
  isplitr
  · unfold shared
    isplitl; · iexact HI
    iapply (Entails.of_eq (bigSep_univ_prod fun x : Dev nD × Fin 3 => (reached EX (counter x.1 x.2) 0 : sProp 𝕄)).symm); iexact HR
  · unfold own; rw [bigSep_sep']
    isplitl [Ha] <;> iassumption

/-- The global step of the launch. -/
theorem set_up :
    (bigSep Finset.univ fun c => iprop(Pipeline.ownSems0 (Ix := Unit) (Name := ℕ) (U := Ghost) (Lvl := ℕ) (Val := Elt F) (τ := τ) ownSem c ∗ unscopedSems0 c ∗ dealt (F := F) σ m c) : sProp 𝕄)
      ⊢ |={Set.univ}=> bigSep Finset.univ (ghost σ m) :=
  ((bigSep_mono fun c _ => enclose σ m c).trans (bigSep_fupd _ _)).trans (BI.fupd_mono (redeal σ m))

/-! ## The credits -/

/-- What device `d` owes the gate of device `c`: one unit if `d` is the destination of `c`. -/
theorem owed_gate (d c : Dev nD) : owesAll σ d (counter c 0) () = if d = σ c then 1 else 0 := by
  unfold owesAll owesCopy
  rw [Pi.add_apply, Finsupp.add_apply, tallyAt_ne_cell (fun h => absurd (counter_inj h).2 (by decide)), Finsupp.zero_apply, Nat.zero_add, tallyAt_apply]
  refine if_congr ⟨fun h => ?_, fun h => ?_⟩ rfl rfl
  · exact (Equiv.symm_apply_eq σ).mp (counter_inj h.1).1.symm
  · rw [h, Equiv.symm_apply_apply]; exact ⟨rfl, rfl⟩

/-- What device `d` owes the incoming counter of device `c`: a block if `d` is the source of `c`. -/
theorem owed_incoming (d c : Dev nD) : owesAll σ d (counter c 2) () = if d = σ.symm c then N else 0 := by
  unfold owesAll owesCopy
  rw [Pi.add_apply, Finsupp.add_apply, tallyAt_ne_cell (g := counter (σ.symm d) 0) (fun h => absurd (counter_inj h).2 (by decide)), Finsupp.zero_apply, Nat.add_zero, tallyAt_apply]
  refine if_congr ⟨fun h => ?_, fun h => ?_⟩ rfl rfl
  · exact (Equiv.eq_symm_apply σ).mpr (counter_inj h.1).1.symm
  · rw [h, Equiv.apply_symm_apply]; exact ⟨rfl, rfl⟩

/-- A counter that exactly one device owes `n` starts with the credit `n`. -/
theorem credit_of (c d : Dev nD) (k : Fin 3) (n : ℕ) (h : ∀ e, owesAll σ e (counter c k) () = if e = d then n else 0) :
    tallyOn (counter c k) (launchCredit (Pipeline.owing (owesAll σ)) 0 (counter c k)) = (tallyAt (counter c k) () n : CellTallies nD τ sig Unit) := by
  unfold tallyAt; refine congrArg _ (Finsupp.ext fun u => ?_); cases u
  rw [Pipeline.launchCredit_owing, Finsupp.single_eq_same, Finset.sum_congr rfl fun e _ => h e,
    Finset.sum_ite_eq' Finset.univ d fun _ => n, if_pos (Finset.mem_univ _)]

omit [FloatOps F] in
/-- The credits device `c` starts with: its gate's unit and its incoming counter's block. -/
theorem credits (c : Dev nD) :
    (Pipeline.launchCred (owesAll σ) c : sProp 𝕄) ⊢ iprop(cred (tallyAt (counter c 0) () 1) ∗ cred (tallyAt (counter c 2) () N)) := by
  unfold Pipeline.launchCred
  rw [bigSep_univ_at _ (semOf 0), credit_of σ c (σ c) 0 1 fun e => owed_gate σ e c]
  refine sep_mono_right ?_
  rw [← credit_of σ c (σ.symm c) 2 N fun e => owed_incoming σ e c]
  exact bigSep_elim (Finset.mem_erase.mpr ⟨by decide, Finset.mem_univ _⟩)

/-! ## The conditions of the launch -/

/-- What device `c` brings into the region: what it starts from, its block and its result array. -/
def brings (c : Dev nD) : sProp 𝕄 :=
  iprop(start σ m c ∗ holdsBlock m c ∗ holdsResult c (m ((c : Thread nD τ).loc main_v1)))

/-- What it takes out: the barrier's counter at zero, its block unchanged, its result array filled. -/
def takes (c : Dev nD) : sProp 𝕄 :=
  iprop(unscopedSems0 c ∗ holdsBlock m c ∗ holdsResult c (arrived σ m c))

variable (ρ : Dev nD → PrngReg)

/-- What the launch gives device `c` outside the kernel is what it brings to the kernel. -/
theorem brought (c : Dev nD) :
    iprop(Pipeline.unscopedRestP Pipeline.Prefetch.none cfg0.spec c (fun b => m ((c : Thread nD τ).loc b)) ∗ levAts declared level
        ∗ Pipeline.launchCred (owesAll σ) c ∗ prngReg c (ρ c) ∗ ghost σ m c)
      ⊢ |={Set.univ}=> iprop(brings σ m c ∗ emp) := by
  rw [Pipeline.unscopedRestP_none, unscopedRest0_eq]
  iintro ⟨⟨Hb, Hf⟩, Hlev, Hcr, -, Hg⟩
  ihave Hc := (credits (F := F) σ c) $$ Hcr
  imodintro
  unfold brings start holdsBlock holdsResult
  isplitl
  · isplitl [Hg Hc Hlev]
    · isplitl [Hg]; · iexact Hg
      isplitl [Hc] <;> iassumption
    isplitl [Hb] <;> iassumption
  · iempintro

/-- What device `c` brings is what its body starts from. -/
theorem entered (c : Dev nD) :
    iprop(brings σ m c ∗ Pipeline.prefHeld Pipeline.Prefetch.none c (fun _ => fullShare.right) (fun k => k.elim0) ∗ Pipeline.scopedRest cfg0.spec c)
      ⊢ (datas σ m 0 c).Φ 0 := by
  rw [show (datas σ m 0 c).Φ 0 = before σ m c from rfl]
  unfold brings before
  iintro ⟨⟨Hs, Hb, Hf⟩, -, -⟩
  isplitl [Hs]; · iexact Hs
  isplitl [Hb]; · iexact Hb
  iexists _; iexact Hf

/-- What its body ends with is what device `c` takes out, its own counters at zero and nothing else scoped. -/
theorem left (c : Dev nD) :
    (datas σ m 0 c).Φ (Fin.last cfg0.N) ⊢ iprop(takes σ m c ∗ Pipeline.ownSems0 ownSem c ∗ Pipeline.scopedRest cfg0.spec c) := by
  rw [show (datas σ m 0 c).Φ (Fin.last cfg0.N) = after σ m c from rfl, scopedRest0_eq, ownSems_eq]
  unfold after takes
  rw [freeSems_eq]
  iintro ⟨Hb, Hf, Hz0, Hz1, Hz2⟩
  isplitl [Hb Hf Hz0]
  · isplitl [Hz0]; · iexact Hz0
    isplitl [Hb] <;> iassumption
  isplitl [Hz1 Hz2]
  · isplitl [Hz1] <;> iassumption
  iempintro

/-- The pipeline may wait for the copies of the table: their counters lie below everything owed. -/
theorem waits (c : Dev nD) : (levAts declared level : sProp 𝕄) ⊢ Pipeline.cellsWaits cfgs (datas σ m) () 0 c :=
  Pipeline.cellsWaits_intro cfgs (datas σ m) () 0 c fun w s t =>
    mayWait_low σ c _ (by fin_cases w <;> fin_cases s <;> decide) (by fin_cases w <;> fin_cases s <;> decide) _ (by
      rcases t with ⟨_ | _, ht⟩
      · exact Or.inl rfl
      · exact Or.inr rfl)

/-- The pipeline holds its arrays whole. -/
theorem full_share (c : Dev nD) (w : Fin cfg0.W) : (datas σ m 0 c).share w = fullShare := by
  unfold Dat.share; split <;> rfl

/-- The kernel's own two counters are scoped, apart from each other and from the pipeline's. -/
theorem own_facts : Pipeline.OwnSemFacts cfg0.spec ownSem := by decide

omit [FloatOps F] in
/-- A buffer held whole, read against the machine's state: the memory holds those contents. -/
theorem reads (ℓ : Loc nD τ sig) (f : Buf (Elt F) ℓ) (s : Phys nD τ sig (Elt F)) :
    iprop((ℓ ↦{fullShare} f) ∗ SI s) ⊢ (iprop(⌜s.mem.mem ℓ = f⌝ ∗ SI s) : sProp 𝕄) := by
  iintro ⟨H, HS⟩
  icombine HS H gives %h
  isplitr
  · ipureintro; exact Buf.eq_of_forall_mem_univ h
  · iexact HS

/-- What is read of device `c` in the final state: counters, block, result. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = arrived σ m c

/-- What device `c` takes out, read against the final state: its counters are zero, its block is unchanged, its result has arrived. -/
theorem seen (c : Dev nD) (s : Phys nD τ sig (Elt F)) :
    iprop(takes σ m c ∗ emp ∗ SI s) ⊢ (|={Set.univ}=> iprop(⌜Seen σ m c s.mem⌝ ∗ SI s) : sProp 𝕄) := by
  unfold takes holdsBlock holdsResult
  iintro ⟨⟨Hz, Hb, Hf⟩, -, HS⟩
  ihave H := (reads _ _ s) $$ [Hb HS]
  · isplitl [Hb] <;> iassumption
  icases H with ⟨%hb, HS⟩
  ihave H := (reads _ _ s) $$ [Hf HS]
  · isplitl [Hf] <;> iassumption
  icases H with ⟨%hf, HS⟩
  imod (Pipeline.unscopedSems0_read (X := unscopedSems0 c) (c := c) fupd_intro s) $$ [Hz HS] with ⟨%hz, HS⟩
  · isplitl [Hz] <;> iassumption
  imodintro
  isplitr
  · ipureintro; exact ⟨hz, hb, hf⟩
  · iexact HS

/-! ## The run -/

/-- What a run of the program under the permutation `σ` ends in. -/
def Exchanged (r : PUnit × MemSt nD τ sig (Elt F)) : Prop :=
  (∀ c : Dev nD, r.2.mem ((c : Thread nD τ).loc main_v1) = arrived σ m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0

set_option maxRecDepth 8000 in
/-- For any float values, from any memory in which every device's table is the permutation `σ`, with the counters at
    zero: every fair execution of the program ends, with device `c`'s result array holding the block of `σ⁻¹ c`, both
    arguments as they were and every counter at zero. -/
theorem run_main (h : Agrees m σ) : θ_run defs (onTc (τ := τ) (main (F := F))) ⟨m, fun _ => 0, ρ⟩ (Exchanged σ m) :=
  Pipeline.θ_run_region_owing_glob_pf (fun p => (cfgs p).toPCfg) (fun p => (cfgs p).toPCfg_adm) (datas σ m) () cellOf_inj (0 : Fin 1)
    winFacts0.to₀ own_facts (Pipeline.PreFacts.none _) EP defs₀ 𝒱₀ m ρ main
    (hmain := fun _ => rfl)
    (hbody := obligation σ m h) (hne := fun w => by fin_cases w; exact Nat.succ_pos _) (harr := arr_whole0) (hstage := stage_whole0)
    (hshare := full_share σ m) (hdistinct := winFacts0.arr_inj)
    (O₀ := owesAll σ) (howed₀ := fun _ => rfl) (howedN := fun _ => rfl)
    (L := declared) (lv := level) (hL := declared_of_ne) (hwaits := waits σ m)
    (G := dealt σ m) (G' := ghost σ m) (u₀ := launchGhost)
    (hu₀ := by
      unfold launchGhost
      iintro H
      ihave H := (ownU_pair _ _) $$ H
      icases H with ⟨HP, HX⟩
      imod (deal σ m) $$ HX with HG
      imodintro
      isplitl [HP] <;> iassumption)
    (hglob := set_up σ m)
    (hA := fun _ _ => rfl) (hpf := fun _ k => k.elim0)
    (X := brings σ m) (Y := takes σ m) (Z := fun _ => iprop(emp))
    (hX := brought σ m ρ) (hin := entered σ m) (hout := left σ m)
    (QY := Seen σ m) (hY := seen σ m)
    (hQ := fun _ hr hs => ⟨fun c => ⟨(hr c).2.2.2.2, (hr c).2.2.2.1, ((hr c).1 0).trans ((datas σ m 0 c).arrAt_in 0 rfl _)⟩,
      sem_eq_zero hs fun c => (hr c).2.2.1⟩)

end Cert.Permute

end
-- ==== Proof.Order.lean ====
/-
The reference's argsort: the stable sort of a permutation's table, carrying the positions, gives the inverse
permutation, and the wrapping of negative indices that follows it changes nothing.
-/
module

public import proofs.«01_k».proof.ReferenceIdeal
public import proofs.«01_k».proof.Proof.Gen.ReferenceIdeal
public import Idealize.ShloMosaic.Lib.SortNet.HostSort

@[expose] public section

noncomputable section

namespace Cert.Permute.Reference

open Cert.ReferenceIdeal Cert.ReferenceIdeal.Gen

open Idealize.ShloMosaic

/-- Place `j` of a vector of sixteen. -/
def place (j : Fin 16) : S16.Idx := fun a => ⟨j.val, by fin_cases a; exact j.isLt⟩

/-- The table is the permutation `σ`: word `j` is the number `σ j`. -/
def IsTable (σ : Fin 16 ≃ Fin 16) (t : IVec S16 32) : Prop := ∀ j : Fin 16, t (place j) = BitVec.ofNat 32 (σ j).val

/-- The sort's comparison of two numbers below sixteen, as words, is their comparison. -/
theorem less_words (a b : Fin 16) :
    (IntOp.cmpi .slt (BitVec.ofNat 32 a.val) (BitVec.ofNat 32 b.val) == 1#1) = decide (a.val < b.val) := by
  revert a b; decide +kernel

/-- A number below sixteen, as a word, is not negative. -/
theorem not_negative (a : Fin 16) : IntOp.cmpi .slt (BitVec.ofNat 32 a.val) 0#32 = 0#1 := by
  revert a; decide +kernel

/-- The positions in the order of their words: the inverse permutation written as a list. -/
def ordered (σ : Fin 16 ≃ Fin 16) : List (Fin 16) := (List.finRange 16).map σ.symm

/-- That list holds every position once. -/
theorem ordered_perm (σ : Fin 16 ≃ Fin 16) : (ordered σ).Perm (List.finRange 16) :=
  (List.perm_ext_iff_of_nodup ((List.nodup_finRange 16).map σ.symm.injective) (List.nodup_finRange 16)).mpr fun a =>
    ⟨fun _ => List.mem_finRange a, fun _ => List.mem_map.mpr ⟨σ a, List.mem_finRange _, σ.symm_apply_apply a⟩⟩

/-- Along it the words strictly ascend. -/
theorem ordered_ascends (σ : Fin 16 ≃ Fin 16) : (ordered σ).Pairwise fun a b => (σ a).val < (σ b).val := by
  refine List.pairwise_map.mpr ((List.pairwise_lt_finRange 16).imp fun {a b} h => ?_)
  rw [σ.apply_symm_apply, σ.apply_symm_apply]
  exact h

/-- The stable sort by the permutation's values puts `σ⁻¹ r` at place `r`. -/
theorem sorted_from (σ : Fin 16 ≃ Fin 16) (r : Fin 16) :
    sortedFrom (fun a b : Fin 16 => decide ((σ a).val < (σ b).val)) r = σ.symm r := by
  have hr : r.val < (ordered σ).length := by rw [ordered, List.length_map, List.length_finRange]; exact r.isLt
  rw [SortNet.sortedFrom_eq_getElem_of_pairwise_lt (fun a => (σ a).val) (ordered σ) (ordered_perm σ) (ordered_ascends σ) r hr]
  simp [ordered]

/-- The sorted positions: what the reference's argsort gives. -/
abbrev argsorted (t : IVec S16 32) : IVec S16 32 := (Host.sort2 S16 0 comparator_i32_i32_d0 t (iotaInDim S16 32 0)).2

/-- Moving along the only axis of a vector of sixteen reaches every place. -/
theorem along_place (r k : Fin 16) : (place r).along (0 : Fin S16.rank) k = place k := by
  funext a; fin_cases a; rfl

/-- The argsort of a permutation's table is the inverse permutation. -/
theorem argsorted_at (σ : Fin 16 ≃ Fin 16) (t : IVec S16 32) (ht : IsTable σ t) (r : Fin 16) :
    argsorted t (place r) = BitVec.ofNat 32 (σ.symm r).val := by
  have hbefore : (fun k k' : Fin 16 => comparator_i32_i32_d0
        (t ((place r).along (0 : Fin S16.rank) k), iotaInDim S16 32 0 ((place r).along (0 : Fin S16.rank) k))
        (t ((place r).along (0 : Fin S16.rank) k'), iotaInDim S16 32 0 ((place r).along (0 : Fin S16.rank) k')) == 1#1)
      = fun a b : Fin 16 => decide ((σ a).val < (σ b).val) := by
    funext k k'
    simp only [along_place, comparator_i32_i32_d0]
    rw [ht, ht, less_words]
  show iotaInDim S16 32 0 ((place r).along (0 : Fin S16.rank) (sortedFrom _ r)) = _
  refine (congrArg (fun p => iotaInDim S16 32 0 ((place r).along (0 : Fin S16.rank) p))
    ((congrArg (fun f => sortedFrom f r) hbefore).trans (sorted_from σ r))).trans ?_
  rw [along_place]
  rfl

/-- The row numbers of the gather: the sorted positions, a negative one counted from the end. -/
abbrev rows (t : IVec S16 32) : IVec S16x1 32 :=
  broadcastInDim S16x1 ![0] Facts₀.bcast_S16_S16x1_0 (select
    (cmpi .slt (argsorted t) (broadcastInDim S16 ![] Facts₀.bcast_S_S16 (constantI S_ 32 0#32)))
    (addi (argsorted t) (broadcastInDim S16 ![] Facts₀.bcast_S_S16 (constantI S_ 32 16#32))) (argsorted t))

/-- The vector of sixteen as a column: row `r` of the column is place `r`. -/
theorem column_at (x : IVec S16 32) (r : Fin 16) (y : S16x1.Idx) (hy : (y 0).val = r.val) :
    broadcastInDim S16x1 ![0] Facts₀.bcast_S16_S16x1_0 x y = x (place r) := by
  unfold broadcastInDim
  refine congrArg x (funext fun a => ?_)
  fin_cases a
  exact Fin.ext hy

/-- The row the gather takes for row `r` of its result is `σ⁻¹ r`. -/
theorem rows_at (σ : Fin 16 ≃ Fin 16) (t : IVec S16 32) (ht : IsTable σ t) (r : Fin 16) (y : S16x1.Idx) (hy : (y 0).val = r.val) :
    rows t y = BitVec.ofNat 32 (σ.symm r).val := by
  have key : ∀ w : BitVec 32, w = BitVec.ofNat 32 (σ.symm r).val →
      Scalar.select (IntOp.cmpi .slt w 0#32) (w + 16#32) w = BitVec.ofNat 32 (σ.symm r).val := by
    rintro w rfl
    rw [not_negative]
    rfl
  exact (column_at _ r y hy).trans (key _ (argsorted_at σ t ht r))

end Cert.Permute.Reference

end
-- ==== Proof.Reference.lean ====
/-
The reference's result: its gather by the argsort of a permutation's table has, as row `r`, row `σ⁻¹ r` of the
argument; and the reference runs, leaving its arguments as they were and every counter at zero.
-/
module

public import proofs.«01_k».proof.Proof.Order
public import proofs.«01_k».proof.Proof.Gen.ReferenceIdeal.Run
public import Idealize.ShloMosaic.Lib.Quiescent

@[expose] public section

noncomputable section

namespace Cert.Permute.Reference

open Cert.ReferenceIdeal Cert.ReferenceIdeal.Gen

open Idealize.ShloMosaic
open Idealize.SL.Sem

variable {F : FTy → Type} [FloatOps F]

/-- The index of the argument whose element the result holds at `y`: row `σ⁻¹` of the row of `y`, the rest the same. -/
def fetched (σ : Fin 16 ≃ Fin 16) (y : S16x256x256.Idx) : S16x256x256.Idx :=
  fun a => match a with | ⟨0, _⟩ => σ.symm (y 0) | ⟨1, _⟩ => y 1 | ⟨2, _⟩ => y 2

/-- The start row of a word below sixteen, clamped into the array, is that number. -/
theorem clamped (a : Fin 16) : min (BitVec.ofNat 32 a.val).toInt.toNat 15 = a.val := by
  revert a; decide +kernel

/-- The gather of whole rows. -/
abbrev takeRows : GatherDims S16x256x256 S16x1 S16x256x256 := gather_S16x256x256_S16x1_S16x256x256_12_0_n_n_0_1_1256256

/-- The gather of whole rows by row numbers that are `σ⁻¹` reads, at `y`, the argument at the fetched index. -/
theorem gathered_at {α : Type} (σ : Fin 16 ≃ Fin 16) (x : S16x256x256.Idx → α) (i : IVec S16x1 32)
    (hi : ∀ (r : Fin 16) (y : S16x1.Idx), (y 0).val = r.val → i y = BitVec.ofNat 32 (σ.symm r).val) (y : S16x256x256.Idx) :
    Host.gather takeRows x i y = x (fetched σ y) := by
  unfold Host.gather
  refine congrArg x (funext fun a => Fin.ext ?_)
  show takeRows.start y i a + takeRows.batchCoord y a + takeRows.offCoord y a = _
  rw [GatherDims.batchCoord_eq_zero _ _ _ List.not_mem_nil, Nat.add_zero]
  match a with
  | ⟨0, _⟩ =>
    refine (congrArg _ (GatherDims.offCoord_eq_zero takeRows y (0 : Fin 3)
      (fun h => ((GatherDims.mem_sKept _ _).mp h).1 (List.mem_singleton.mpr rfl)))).trans ?_
    show min (i _).toInt.toNat 15 + 0 = (σ.symm (y 0)).val
    rw [hi (y 0) _ rfl]
    exact clamped _
  | ⟨1, _⟩ => exact (Nat.zero_add _).trans rfl
  | ⟨2, _⟩ => exact (Nat.zero_add _).trans rfl

/-- What the reference computes from a permutation's table. -/
theorem result_eq (σ : Fin 16 ≃ Fin 16) (x : FVec F S16x256x256 .f32) (t : IVec S16 32) (ht : IsTable σ t) :
    Host.gather takeRows x (rows t) = fun y => x (fetched σ y) :=
  funext fun y => gathered_at σ x (rows t) (fun r y hy => rows_at σ t ht r y hy) y

/-- The reference runs from any memory: its result is the gather by the argsort of its table, its arguments end as
they were, and every counter is zero. -/
theorem run_reference (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v7)
            = Host.gather takeRows (m ((c.tc : Thread nD τ).loc main_arg0)) (rows (m ((c.tc : Thread nD τ).loc main_arg1)))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono (fun r h => ⟨h, sem_eq_zero_of_no_sems (by decide) r.2⟩) (Cert.ReferenceIdeal.Value.run m ρ)

end Cert.Permute.Reference

end
-- ==== Proof.Value.lean ====
/-
The equation: where the devices' blocks are the parts of the reference's array, what the kernel leaves on device c is
device c's part of the reference's result.
-/
module

public import proofs.«01_k».proof.Proof.Schedule
public import proofs.«01_k».proof.Proof.Reference
public import Idealize.ShloMosaic.Lib.Layout

@[expose] public section

noncomputable section

namespace Cert.Permute

open Cert.KernelIdeal Cert.KernelIdeal.Gen

open Idealize.ShloMosaic
open Idealize.ShloMosaic.TcCoe

variable {F : FTy → Type} [FloatOps F]

/-- Device `c`'s part of an array of sixteen blocks. -/
abbrev part {α : Type} (c : Dev nD) (x : (⟨3, ![16, 256, 256]⟩ : Shape).Idx → α) : (⟨3, ![1, 256, 256]⟩ : Shape).Idx → α :=
  Layout.block ⟨3, ![1, 256, 256]⟩ ⟨3, ![16, 256, 256]⟩ 0 16 c x

/-- Part `c` of the rows fetched by `σ⁻¹` is part `σ⁻¹ c` of the array. -/
theorem part_fetched {α : Type} (σ : Dev nD ≃ Dev nD) (x : (⟨3, ![16, 256, 256]⟩ : Shape).Idx → α) (c : Dev nD) :
    part c (fun y => x (Reference.fetched σ y)) = part (σ.symm c) x := by
  have tiles : Layout.Tiles ⟨3, ![1, 256, 256]⟩ ⟨3, ![16, 256, 256]⟩ 0 16 := by decide
  have row : ∀ (d : Dev nD) (i : (⟨3, ![1, 256, 256]⟩ : Shape).Idx), (tiles.idx d i 0).val = d.val := fun d i => by
    have h0 : (i 0).val = 0 := Nat.lt_one_iff.mp (i 0).isLt
    show d.val * 1 + (i 0).val = d.val
    omega
  funext i
  refine congrArg x (funext fun a => Fin.ext ?_)
  match a with
  | ⟨0, _⟩ =>
    show (σ.symm (tiles.idx c i 0)).val = (tiles.idx (σ.symm c) i 0).val
    rw [row, show (tiles.idx c i 0 : Fin 16) = c from Fin.ext (row c i)]
  | ⟨1, _⟩ => rfl
  | ⟨2, _⟩ => rfl

/-- What arrives at device `c` is device `c`'s part of the reference's result. -/
theorem arrived_eq (σ : Dev nD ≃ Dev nD) (m : (ℓ : Loc nD τ sig) → Buf (Elt F) ℓ) (x : FVec F ⟨3, ![16, 256, 256]⟩ .f32)
    (t : IVec S16 32) (hx : ∀ c : Dev nD, blockOf m c = part c x) (ht : Reference.IsTable σ t) (c : Dev nD) :
    arrived σ m c = part c (Host.gather Cert.ReferenceIdeal.gather_S16x256x256_S16x1_S16x256x256_12_0_n_n_0_1_1256256 x
      (Reference.rows t)) := by
  rw [Reference.result_eq σ x t ht]
  exact (hx (σ.symm c)).trans (part_fetched σ x c).symm

end Cert.Permute

end
-- ==== Proof.Computes.lean ====
/-
What the kernel computes, for any permutation: where every device's table is σ's and the blocks are the parts of one
array, it runs and leaves each device its part of the reference's result.
-/
module

public import proofs.«01_k».proof.Proof.Launch
public import proofs.«01_k».proof.Proof.Value

@[expose] public section

noncomputable section

namespace Cert.Permute

open Cert.KernelIdeal Cert.KernelIdeal.Gen

open Idealize.ShloMosaic
open Idealize.ShloMosaic.TcCoe
open Idealize.SL.Sem

variable {F : FTy → Type} [FloatOps F]

/-- For every permutation `σ`, every table `t` of it and every array `x`: from devices holding the parts of `x` and the
table `t` the kernel runs, device `c` ends with part `c` of the reference's result, and the arguments end as they were. -/
theorem computes (σ : Dev nD ≃ Dev nD) (m : (ℓ : Loc nD τ sig) → Buf (Elt F) ℓ) (ρ : Dev nD → PrngReg)
    (x : FVec F ⟨3, ![16, 256, 256]⟩ .f32) (t : IVec S16 32) (ht : Reference.IsTable σ t)
    (hm : ∀ c : Dev nD, blockOf m c = part c x ∧ tableOf m c = t) :
    θ_run defs (onTc (τ := τ) (main (F := F))) ⟨m, fun _ => 0, ρ⟩ fun r => ∀ c : Dev nD,
      r.2.mem ((c : Thread nD τ).loc main_v1)
          = part c (Host.gather Cert.ReferenceIdeal.gather_S16x256x256_S16x1_S16x256x256_12_0_n_n_0_1_1256256 x (Reference.rows t))
        ∧ r.2.mem ((c : Thread nD τ).loc main_arg0) = m ((c : Thread nD τ).loc main_arg0)
        ∧ r.2.mem ((c : Thread nD τ).loc main_arg1) = m ((c : Thread nD τ).loc main_arg1) := by
  have hagrees : Agrees m σ := fun c j => (congrFun (hm c).2 (slot j)).trans (ht j)
  exact (θ_run defs _ _).mono
    (fun _ h c => ⟨(h.1 c).1.trans (arrived_eq σ m x t (fun c => (hm c).1) ht c), (h.1 c).2⟩)
    (run_main σ m ρ hagrees)

end Cert.Permute

end
-- ==== Proof.Same.lean ====
/-
The kernel and its idealization are one text: their body tables are equal, so a run of the one is a run of the other.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Permute

open Idealize.ShloMosaic Idealize.SL.Sem

/-- The kernels' body tables agree, -/
theorem bodies_same : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | ⟨0, _⟩, (t, s) => rfl

/-- and so do the tables of the whole programs. -/
theorem tables_same : Cert.Kernel.defs (F := Bits) = Cert.KernelIdeal.defs (F := Bits) :=
  congrArg (Pipeline.defs Cert.KernelIdeal.pcfgs) bodies_same

/-- A run of the idealized text at bits is a run of the kernel. -/
theorem run_same (s : MemSt Cert.Kernel.nD Cert.Kernel.τ Cert.Kernel.sig (Elt Bits))
    (Q : PUnit × MemSt Cert.Kernel.nD Cert.Kernel.τ Cert.Kernel.sig (Elt Bits) → Prop)
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q :=
  (congrArg (fun D => θ_run D (onTc (τ := Cert.Kernel.τ) (Cert.Kernel.main (F := Bits))) s Q) tables_same).mpr h

end Cert.Permute

end
-- ==== Proof.lean ====
/-
The proof of the certificate's claim: both readings of the kernel and the reference run, leave their arguments as they
were and every counter at zero, and what the kernel leaves on each device is its part of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_rolled_Kernel
public import proofs.«01_k».proof.Proof.Gen.Pre_rolled_ReferenceIdeal
public import proofs.«01_k».proof.Proof.Pre
public import proofs.«01_k».proof.Proof.Computes
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem
open Cert.Permute

/-- The idealized kernel runs and is quiescent. -/
theorem frame_ideal : Cert.quiescent_KernelIdeal := fun m ρ hpre =>
  (θ_run Cert.KernelIdeal.defs _ _).mono (fun _ h => ⟨fun c => (h.1 c).2, h.2⟩)
    (run_main rotation m ρ (agrees_of_rolled m hpre))

/-- The kernel runs and is quiescent: its text is the idealized one's, read at bits. -/
theorem frame_kernel : Cert.quiescent_Kernel := fun m ρ hpre => run_same _ _
  ((θ_run Cert.KernelIdeal.defs _ _).mono (fun _ h => ⟨fun c => (h.1 c).2, h.2⟩)
    (run_main (F := Bits) rotation m ρ (agrees_of_rolled (F := Bits) m hpre)))

/-- The reference runs and is quiescent, from any memory. -/
theorem frame_reference : Cert.quiescent_ReferenceIdeal := fun m ρ _ =>
  (θ_run Cert.ReferenceIdeal.defs _ _).mono (fun _ h => ⟨fun c => (h.1 c).2, h.2⟩) (Reference.run_reference m ρ)

/-- The same where its table is the rotation's. -/
theorem frame_reference_rolled : Cert.quiescent_ReferenceIdeal_pre_rolled_ReferenceIdeal := fun m ρ _ =>
  frame_reference m ρ trivial

/-- Device `c`'s result is its part of the reference's: the general statement at the rotation. -/
theorem algebraic : Cert.algebraic_KernelIdeal_ReferenceIdeal := fun m ρ m' ρ' hpre hargs =>
  ⟨_, computes rotation m ρ _ _ (fun j => (congrFun (hargs 0).2 (slot j)).symm.trans (agrees_of_rolled m hpre 0 j)) hargs,
    (θ_run Cert.ReferenceIdeal.defs _ _).mono (fun _ h => h.1 0) (Reference.run_reference m' ρ')⟩

/-- All six claims. -/
theorem claim : Cert.Claim :=
  ⟨Cert.Kernel.Gen.facts, Cert.KernelIdeal.Gen.facts, Cert.ReferenceIdeal.Gen.facts, Cert.Pre_rolled_Kernel.Gen.facts,
    Cert.Pre_rolled_ReferenceIdeal.Gen.facts, frame_kernel, frame_ideal, frame_reference, frame_reference_rolled, trivial, algebraic⟩

end Cert.Proof

end
